-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x200 : Shape := ⟨2, ![16384, 200]⟩
abbrev S200x16 : Shape := ⟨2, ![200, 16]⟩
abbrev S3200x128 : Shape := ⟨2, ![3200, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S16384x200 : S_.BroadcastsInDim S16384x200 (![] : Fin 0 → Fin S16384x200.rank)
  reducesTo_S16384x200_S_d0_1 : S16384x200.ReducesTo [0, 1] S_
  h_S_ : 0 < S_.numel

variable [Facts]

def fn {F : FTy → Type} [FloatOps F] (main_arg0 : IVec S16384x200 32) (main_arg1 : FVec F S200x16 .f32) (main_arg2 : FVec F S3200x128 .f32) (main_arg3 : FVec F S128 .f32) (main_arg4 : FVec F S128x64 .f32) (main_arg5 : FVec F S64 .f32) (main_arg6 : FVec F S64x2 .f32) (main_arg7 : FVec F S2 .f32) : IVec S_ 1 :=
  let main_c : IVec S_ 32 := constantI S_ 32 0#32
  let main_v0 : IVec S16384x200 32 := broadcastInDim S16384x200 ![] bcast_S_S16384x200 main_c
  let main_v1 : IVec S16384x200 1 := cmpi .sge main_arg0 main_v0
  let main_c_0 : IVec S_ 32 := constantI S_ 32 200#32
  let main_v2 : IVec S16384x200 32 := broadcastInDim S16384x200 ![] bcast_S_S16384x200 main_c_0
  let main_v3 : IVec S16384x200 1 := cmpi .slt main_arg0 main_v2
  let main_v4 : IVec S16384x200 1 := andi main_v1 main_v3
  let main_c_1 : IVec S_ 1 := constantI S_ 1 1#1
  let main_v5 : IVec S_ 1 := (fun x v => Host.reduce IntOp.andi x v reducesTo_S16384x200_S_d0_1 h_S_) main_v4 main_c_1
  main_v5
-- ==== Kernel.lean ====
abbrev S16384x200 : Shape := ⟨2, ![16384, 200]⟩
abbrev S200x16 : Shape := ⟨2, ![200, 16]⟩
abbrev S3200x128 : Shape := ⟨2, ![3200, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S3276800 : Shape := ⟨1, ![3276800]⟩
abbrev S3276800x16 : Shape := ⟨2, ![3276800, 16]⟩
abbrev S2048 : Shape := ⟨1, ![2048]⟩
abbrev S2048x16 : Shape := ⟨2, ![2048, 16]⟩
abbrev S_ : Shape := ⟨0, ![]⟩
abbrev S16384x3200 : Shape := ⟨2, ![16384, 3200]⟩
abbrev S1x128 : Shape := ⟨2, ![1, 128]⟩
abbrev S1x64 : Shape := ⟨2, ![1, 64]⟩
abbrev S1x2 : Shape := ⟨2, ![1, 2]⟩
abbrev S16384x2 : Shape := ⟨2, ![16384, 2]⟩
abbrev S512x3200 : Shape := ⟨2, ![512, 3200]⟩
abbrev S512x2 : Shape := ⟨2, ![512, 2]⟩
abbrev S512x128 : Shape := ⟨2, ![512, 128]⟩
abbrev S512x64 : Shape := ⟨2, ![512, 64]⟩

abbrev nBuf : Table → Nat
  | .hbm => 15
  | .local .tc .vmem => 10
  | .local .scVector .vmem => 4
  | _ => 0

abbrev bufTy : (tb : Table) → Fin (nBuf tb) → BufTy
  | .hbm, ⟨0, _⟩ => ⟨S16384x200, .i32⟩
  | .hbm, ⟨1, _⟩ => ⟨S200x16, .f32⟩
  | .hbm, ⟨2, _⟩ => ⟨S3200x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x2, .f32⟩
  | .hbm, ⟨7, _⟩ => ⟨S2, .f32⟩
  | .hbm, ⟨8, _⟩ => ⟨S3276800, .i32⟩
  | .hbm, ⟨9, _⟩ => ⟨S3276800x16, .f32⟩
  | .hbm, ⟨10, _⟩ => ⟨S16384x3200, .f32⟩
  | .hbm, ⟨11, _⟩ => ⟨S1x128, .f32⟩
  | .hbm, ⟨12, _⟩ => ⟨S1x64, .f32⟩
  | .hbm, ⟨13, _⟩ => ⟨S1x2, .f32⟩
  | .hbm, ⟨14, _⟩ => ⟨S16384x2, .f32⟩
  | .local .tc .vmem, ⟨0, _⟩ => ⟨S512x3200, .f32⟩
  | .local .tc .vmem, ⟨1, _⟩ => ⟨S512x3200, .f32⟩
  | .local .tc .vmem, ⟨2, _⟩ => ⟨S3200x128, .f32⟩
  | .local .tc .vmem, ⟨3, _⟩ => ⟨S1x128, .f32⟩
  | .local .tc .vmem, ⟨4, _⟩ => ⟨S128x64, .f32⟩
  | .local .tc .vmem, ⟨5, _⟩ => ⟨S1x64, .f32⟩
  | .local .tc .vmem, ⟨6, _⟩ => ⟨S64x2, .f32⟩
  | .local .tc .vmem, ⟨7, _⟩ => ⟨S1x2, .f32⟩
  | .local .tc .vmem, ⟨8, _⟩ => ⟨S512x2, .f32⟩
  | .local .tc .vmem, ⟨9, _⟩ => ⟨S512x2, .f32⟩
  | .local .scVector .vmem, ⟨0, _⟩ => ⟨S2048, .i32⟩
  | .local .scVector .vmem, ⟨1, _⟩ => ⟨S2048, .i32⟩
  | .local .scVector .vmem, ⟨2, _⟩ => ⟨S2048x16, .f32⟩
  | .local .scVector .vmem, ⟨3, _⟩ => ⟨S2048x16, .f32⟩
  | _, _ => ⟨S16384x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v0_scv : Ref sig .scVector := ⟨.hbm, 8, rfl⟩
abbrev main_arg1_scv : Ref sig .scVector := ⟨.hbm, 1, rfl⟩
abbrev main_v1_scv : Ref sig .scVector := ⟨.hbm, 9, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg7_0 : Ref sig .tc := ⟨.vmem, 8, rfl⟩
abbrev cc1_stg7_1 : Ref sig .tc := ⟨.vmem, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c102400_i32 : BitVec 32 := 102400#32
  let v2 : BitVec 32 := Scalar.muli v1 c102400_i32
  let v3 : BitVec 32 := Scalar.addi v2 c0_i32
  ![v3.toNat]
@[reducible] def k0_t1_loop : Scf.Loop 32 :=
  let c0_i32_1 : BitVec 32 := 0#32
  let c25_i32 : BitVec 32 := 25#32
  let v9 : BitVec 32 := Scalar.addi c0_i32_1 c25_i32
  let c1_i32 : BitVec 32 := 1#32
  ⟨c0_i32_1, v9, c1_i32⟩
def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c102400_i32 : BitVec 32 := 102400#32
  let v2 : BitVec 32 := Scalar.muli v1 c102400_i32
  let c2_i32_7 : BitVec 32 := 2#32
  let c0_i32_1 : BitVec 32 := 0#32
  let c1_i32 : BitVec 32 := 1#32
  let arg15 : BitVec 32 := Scf.iv c0_i32_1 c1_i32 k0_t1
  let v16 : BitVec 32 := Scalar.muli c2_i32_7 arg15
  let c2048_i32_9 : BitVec 32 := 2048#32
  let v18 : BitVec 32 := Scalar.muli v16 c2048_i32_9
  let v19 : BitVec 32 := Scalar.addi v2 v18
  ![v19.toNat]
def k0_cond1 (k0_t1 : Fin k0_t1_loop.trips) : BitVec 1 :=
  let c0_i32_1 : BitVec 32 := 0#32
  let c1_i32 : BitVec 32 := 1#32
  let arg15 : BitVec 32 := Scf.iv c0_i32_1 c1_i32 k0_t1
  let c0_i32_10 : BitVec 32 := 0#32
  let v22 : BitVec 1 := Scalar.cmpi .sgt arg15 c0_i32_10
  let v23 : BitVec 32 := Scalar.extui v22
  let c0_i32_11 : BitVec 32 := 0#32
  let v24 : BitVec 1 := Scalar.cmpi .ne v23 c0_i32_11
  v24

def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c102400_i32 : BitVec 32 := 102400#32
  let v2 : BitVec 32 := Scalar.muli v1 c102400_i32
  let c2_i32_7 : BitVec 32 := 2#32
  let c0_i32_1 : BitVec 32 := 0#32
  let c1_i32 : BitVec 32 := 1#32
  let arg15 : BitVec 32 := Scf.iv c0_i32_1 c1_i32 k0_t1
  let v16 : BitVec 32 := Scalar.muli c2_i32_7 arg15
  let c2048_i32_32 : BitVec 32 := 2048#32
  let v50 : BitVec 32 := Scalar.muli v16 c2048_i32_32
  let v51 : BitVec 32 := Scalar.addi v2 v50
  let c0_i32_33 : BitVec 32 := 0#32
  ![v51.toNat, 0]
def k0_off4 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c102400_i32 : BitVec 32 := 102400#32
  let v2 : BitVec 32 := Scalar.muli v1 c102400_i32
  let c2_i32_7 : BitVec 32 := 2#32
  let c0_i32_1 : BitVec 32 := 0#32
  let c1_i32 : BitVec 32 := 1#32
  let arg15 : BitVec 32 := Scf.iv c0_i32_1 c1_i32 k0_t1
  let v16 : BitVec 32 := Scalar.muli c2_i32_7 arg15
  let c1_i32_8 : BitVec 32 := 1#32
  let v17 : BitVec 32 := Scalar.addi v16 c1_i32_8
  let c2048_i32_14 : BitVec 32 := 2048#32
  let v26 : BitVec 32 := Scalar.muli v17 c2048_i32_14
  let v27 : BitVec 32 := Scalar.addi v2 v26
  ![v27.toNat]
def k0_cond2 (k0_t1 : Fin k0_t1_loop.trips) : BitVec 1 :=
  let c0_i32_1 : BitVec 32 := 0#32
  let c1_i32 : BitVec 32 := 1#32
  let arg15 : BitVec 32 := Scf.iv c0_i32_1 c1_i32 k0_t1
  let c0_i32_15 : BitVec 32 := 0#32
  let v30 : BitVec 1 := Scalar.cmpi .sgt arg15 c0_i32_15
  let v31 : BitVec 32 := Scalar.extui v30
  let c0_i32_16 : BitVec 32 := 0#32
  let v32 : BitVec 1 := Scalar.cmpi .ne v31 c0_i32_16
  v32

def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c102400_i32 : BitVec 32 := 102400#32
  let v2 : BitVec 32 := Scalar.muli v1 c102400_i32
  let c2_i32_7 : BitVec 32 := 2#32
  let c0_i32_1 : BitVec 32 := 0#32
  let c1_i32 : BitVec 32 := 1#32
  let arg15 : BitVec 32 := Scf.iv c0_i32_1 c1_i32 k0_t1
  let v16 : BitVec 32 := Scalar.muli c2_i32_7 arg15
  let c1_i32_8 : BitVec 32 := 1#32
  let v17 : BitVec 32 := Scalar.addi v16 c1_i32_8
  let c2048_i32_32 : BitVec 32 := 2048#32
  let v50 : BitVec 32 := Scalar.muli v17 c2048_i32_32
  let v51 : BitVec 32 := Scalar.addi v2 v50
  let c0_i32_33 : BitVec 32 := 0#32
  ![v51.toNat, 0]
def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c102400_i32 : BitVec 32 := 102400#32
  let v2 : BitVec 32 := Scalar.muli v1 c102400_i32
  let c2_i32_7 : BitVec 32 := 2#32
  let c0_i32_1 : BitVec 32 := 0#32
  let c1_i32 : BitVec 32 := 1#32
  let arg15 : BitVec 32 := Scf.iv c0_i32_1 c1_i32 k0_t1
  let v16 : BitVec 32 := Scalar.muli c2_i32_7 arg15
  let c2048_i32_21 : BitVec 32 := 2048#32
  let v35 : BitVec 32 := Scalar.muli v16 c2048_i32_21
  let v36 : BitVec 32 := Scalar.addi v2 v35
  let c0_i32_22 : BitVec 32 := 0#32
  ![v36.toNat, 0]
def k0_cond3 (k0_t1 : Fin k0_t1_loop.trips) : BitVec 1 :=
  let c0_i32_1 : BitVec 32 := 0#32
  let c1_i32 : BitVec 32 := 1#32
  let arg15 : BitVec 32 := Scf.iv c0_i32_1 c1_i32 k0_t1
  let c24_i32 : BitVec 32 := 24#32
  let v39 : BitVec 1 := Scalar.cmpi .slt arg15 c24_i32
  let v40 : BitVec 32 := Scalar.extui v39
  let c0_i32_24 : BitVec 32 := 0#32
  let v41 : BitVec 1 := Scalar.cmpi .ne v40 c0_i32_24
  v41

def k0_off7 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c102400_i32 : BitVec 32 := 102400#32
  let v2 : BitVec 32 := Scalar.muli v1 c102400_i32
  let c2_i32_7 : BitVec 32 := 2#32
  let c0_i32_1 : BitVec 32 := 0#32
  let c1_i32 : BitVec 32 := 1#32
  let arg15 : BitVec 32 := Scf.iv c0_i32_1 c1_i32 k0_t1
  let v16 : BitVec 32 := Scalar.muli c2_i32_7 arg15
  let c2_i32_32 : BitVec 32 := 2#32
  let v50 : BitVec 32 := Scalar.addi v16 c2_i32_32
  let c2048_i32_33 : BitVec 32 := 2048#32
  let v51 : BitVec 32 := Scalar.muli v50 c2048_i32_33
  let v52 : BitVec 32 := Scalar.addi v2 v51
  ![v52.toNat]
def k0_off8 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c102400_i32 : BitVec 32 := 102400#32
  let v2 : BitVec 32 := Scalar.muli v1 c102400_i32
  let c2_i32_7 : BitVec 32 := 2#32
  let c0_i32_1 : BitVec 32 := 0#32
  let c1_i32 : BitVec 32 := 1#32
  let arg15 : BitVec 32 := Scf.iv c0_i32_1 c1_i32 k0_t1
  let v16 : BitVec 32 := Scalar.muli c2_i32_7 arg15
  let c1_i32_8 : BitVec 32 := 1#32
  let v17 : BitVec 32 := Scalar.addi v16 c1_i32_8
  let c2048_i32_27 : BitVec 32 := 2048#32
  let v43 : BitVec 32 := Scalar.muli v17 c2048_i32_27
  let v44 : BitVec 32 := Scalar.addi v2 v43
  let c0_i32_28 : BitVec 32 := 0#32
  ![v44.toNat, 0]
def k0_cond4 (k0_t1 : Fin k0_t1_loop.trips) : BitVec 1 :=
  let c0_i32_1 : BitVec 32 := 0#32
  let c1_i32 : BitVec 32 := 1#32
  let arg15 : BitVec 32 := Scf.iv c0_i32_1 c1_i32 k0_t1
  let c24_i32_30 : BitVec 32 := 24#32
  let v47 : BitVec 1 := Scalar.cmpi .slt arg15 c24_i32_30
  let v48 : BitVec 32 := Scalar.extui v47
  let c0_i32_31 : BitVec 32 := 0#32
  let v49 : BitVec 1 := Scalar.cmpi .ne v48 c0_i32_31
  v49

def k0_off9 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c102400_i32 : BitVec 32 := 102400#32
  let v2 : BitVec 32 := Scalar.muli v1 c102400_i32
  let c2_i32_7 : BitVec 32 := 2#32
  let c0_i32_1 : BitVec 32 := 0#32
  let c1_i32 : BitVec 32 := 1#32
  let arg15 : BitVec 32 := Scf.iv c0_i32_1 c1_i32 k0_t1
  let v16 : BitVec 32 := Scalar.muli c2_i32_7 arg15
  let c1_i32_8 : BitVec 32 := 1#32
  let v17 : BitVec 32 := Scalar.addi v16 c1_i32_8
  let c2_i32_32 : BitVec 32 := 2#32
  let v50 : BitVec 32 := Scalar.addi v17 c2_i32_32
  let c2048_i32_33 : BitVec 32 := 2048#32
  let v51 : BitVec 32 := Scalar.muli v50 c2048_i32_33
  let v52 : BitVec 32 := Scalar.addi v2 v51
  ![v52.toNat]
def k0_off10 (i : grid0.Coords) (c98304_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c102400_i32 : BitVec 32 := 102400#32
  let v2 : BitVec 32 := Scalar.muli v1 c102400_i32
  let v10 : BitVec 32 := Scalar.addi v2 c98304_i32
  let c0_i32_3 : BitVec 32 := 0#32
  ![v10.toNat, 0]
abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x3200 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3200x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x200 : Shape := ⟨2, ![16384, 200]⟩
abbrev S200x16 : Shape := ⟨2, ![200, 16]⟩
abbrev S3200x128 : Shape := ⟨2, ![3200, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩
abbrev S16384x200x1 : Shape := ⟨3, ![16384, 200, 1]⟩
abbrev S1 : Shape := ⟨1, ![1]⟩
abbrev S1x1x1 : Shape := ⟨3, ![1, 1, 1]⟩
abbrev S16384x200x16 : Shape := ⟨3, ![16384, 200, 16]⟩
abbrev S16384x3200 : Shape := ⟨2, ![16384, 3200]⟩
abbrev S16384x128 : Shape := ⟨2, ![16384, 128]⟩
abbrev S1x128 : Shape := ⟨2, ![1, 128]⟩
abbrev S16384x64 : Shape := ⟨2, ![16384, 64]⟩
abbrev S1x64 : Shape := ⟨2, ![1, 64]⟩
abbrev S16384x2 : Shape := ⟨2, ![16384, 2]⟩
abbrev S1x2 : Shape := ⟨2, ![1, 2]⟩

abbrev nBuf : Space → Nat
  | .hbm => 50
  | .vmem => 0
  | .smem => 0
  | _ => 0

abbrev bufTy : (tb : Table) → Fin (tcTables nBuf tb) → BufTy
  | .hbm, ⟨0, _⟩ => ⟨S16384x200, .i32⟩
  | .hbm, ⟨1, _⟩ => ⟨S200x16, .f32⟩
  | .hbm, ⟨2, _⟩ => ⟨S3200x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x2, .f32⟩
  | .hbm, ⟨7, _⟩ => ⟨S2, .f32⟩
  | .hbm, ⟨8, _⟩ => ⟨S_, .i32⟩
  | .hbm, ⟨9, _⟩ => ⟨S16384x200, .i32⟩
  | .hbm, ⟨10, _⟩ => ⟨S16384x200, .i1⟩
  | .hbm, ⟨11, _⟩ => ⟨S_, .i32⟩
  | .hbm, ⟨12, _⟩ => ⟨S16384x200, .i32⟩
  | .hbm, ⟨13, _⟩ => ⟨S16384x200, .i32⟩
  | .hbm, ⟨14, _⟩ => ⟨S16384x200, .i32⟩
  | .hbm, ⟨15, _⟩ => ⟨S16384x200x1, .i32⟩
  | .hbm, ⟨16, _⟩ => ⟨S1, .i32⟩
  | .hbm, ⟨17, _⟩ => ⟨S_, .i32⟩
  | .hbm, ⟨18, _⟩ => ⟨S16384x200x1, .i32⟩
  | .hbm, ⟨19, _⟩ => ⟨S16384x200x1, .i1⟩
  | .hbm, ⟨20, _⟩ => ⟨S1x1x1, .i32⟩
  | .hbm, ⟨21, _⟩ => ⟨S16384x200x1, .i32⟩
  | .hbm, ⟨22, _⟩ => ⟨S16384x200x1, .i1⟩
  | .hbm, ⟨23, _⟩ => ⟨S16384x200x1, .i1⟩
  | .hbm, ⟨24, _⟩ => ⟨S_, .i1⟩
  | .hbm, ⟨25, _⟩ => ⟨S16384x200, .i1⟩
  | .hbm, ⟨26, _⟩ => ⟨S16384x200x16, .f32⟩
  | .hbm, ⟨27, _⟩ => ⟨S16384x200x16, .i1⟩
  | .hbm, ⟨28, _⟩ => ⟨S_, .f32⟩
  | .hbm, ⟨29, _⟩ => ⟨S16384x200x16, .f32⟩
  | .hbm, ⟨30, _⟩ => ⟨S16384x200x16, .f32⟩
  | .hbm, ⟨31, _⟩ => ⟨S16384x3200, .f32⟩
  | .hbm, ⟨32, _⟩ => ⟨S16384x128, .f32⟩
  | .hbm, ⟨33, _⟩ => ⟨S1x128, .f32⟩
  | .hbm, ⟨34, _⟩ => ⟨S16384x128, .f32⟩
  | .hbm, ⟨35, _⟩ => ⟨S16384x128, .f32⟩
  | .hbm, ⟨36, _⟩ => ⟨S_, .f32⟩
  | .hbm, ⟨37, _⟩ => ⟨S16384x128, .f32⟩
  | .hbm, ⟨38, _⟩ => ⟨S16384x128, .f32⟩
  | .hbm, ⟨39, _⟩ => ⟨S16384x64, .f32⟩
  | .hbm, ⟨40, _⟩ => ⟨S1x64, .f32⟩
  | .hbm, ⟨41, _⟩ => ⟨S16384x64, .f32⟩
  | .hbm, ⟨42, _⟩ => ⟨S16384x64, .f32⟩
  | .hbm, ⟨43, _⟩ => ⟨S_, .f32⟩
  | .hbm, ⟨44, _⟩ => ⟨S16384x64, .f32⟩
  | .hbm, ⟨45, _⟩ => ⟨S16384x64, .f32⟩
  | .hbm, ⟨46, _⟩ => ⟨S16384x2, .f32⟩
  | .hbm, ⟨47, _⟩ => ⟨S1x2, .f32⟩
  | .hbm, ⟨48, _⟩ => ⟨S16384x2, .f32⟩
  | .hbm, ⟨49, _⟩ => ⟨S16384x2, .f32⟩
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_call1_cst : Ref sig .tc := ⟨.hbm, 36, rfl⟩
abbrev main_call1_v0 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_call2_cst : Ref sig .tc := ⟨.hbm, 43, rfl⟩
abbrev main_call2_v0 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩

abbrev nD : Nat := 1
abbrev τ : Topo := Topo.v7x

variable {F : FTy → Type} [FloatOps F]
-- ==== Proof.Setup.lean ====
/- The SparseCore launch of the program as the launch theorem of the library sees it, the buffers that the
   SparseCore call works on, and the pieces of them that one tile holds. -/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP [FloatOps F] : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none

theorem nSub_zero [FloatOps F] : (K (F := F)).nSub 0 = 16 := rfl
theorem nCore_zero [FloatOps F] : (K (F := F)).nCore 0 = 2 := rfl

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's counters, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The rounds of the TensorCore pipeline's staging cells: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The buffers -/

variable (m : (ℓ : Loc nD τ sig) → Buf (Elt F) ℓ)

/-- The flattened index array, the table, and the gathered rows, as locations of device `d`. -/
abbrev xLoc (d : Dev nD) : Loc nD τ sig := (SparseCore.T d).loc main_v0
abbrev eLoc (d : Dev nD) : Loc nD τ sig := (SparseCore.T d).loc main_arg1
abbrev oLoc (d : Dev nD) : Loc nD τ sig := (SparseCore.T d).loc main_v1

local notation "xV" => (Memref.whole Cert.KernelIdeal.main_v0_scv : Memref Cert.KernelIdeal.sig Kind.scVector Space.hbm Cert.KernelIdeal.S3276800 EltTy.i32)
local notation "eV" => (Memref.whole Cert.KernelIdeal.main_arg1_scv : Memref Cert.KernelIdeal.sig Kind.scVector Space.hbm Cert.KernelIdeal.S200x16 EltTy.f32)
local notation "oV" => (Memref.whole Cert.KernelIdeal.main_v1_scv : Memref Cert.KernelIdeal.sig Kind.scVector Space.hbm Cert.KernelIdeal.S3276800x16 EltTy.f32)

/-- Words `r` to `r + 2047` of the index array. -/
abbrev xWin (r : ℕ) (h : ∀ a, (![r] : Fin 1 → ℕ) a + S2048.size a ≤ S3276800.size a) : Memref sig .scVector .hbm S2048 .i32 :=
  (xV).slice (Rect.unit (s := S3276800) ![r] S2048.size h) (fun _ => rfl)
/-- The table, as the kernel slices it (all of it). -/
abbrev eWin : Memref sig .scVector .hbm S200x16 .f32 :=
  (eV).slice (Rect.unit (s := S200x16) ![0, 0] S200x16.size inb_S200x16_S200x16_0_0) (fun _ => rfl)
/-- Rows `r` to `r + 2047` of the gathered array. -/
abbrev oWin (r : ℕ) (h : ∀ a, (![r, 0] : Fin 2 → ℕ) a + S2048x16.size a ≤ S3276800x16.size a) : Memref sig .scVector .hbm S2048x16 .f32 :=
  (oV).slice (Rect.unit (s := S3276800x16) ![r, 0] S2048x16.size h) (fun _ => rfl)

theorem xInb {r : ℕ} (hr : r + 2048 ≤ 3276800) : ∀ a, (![r] : Fin 1 → ℕ) a + S2048.size a ≤ S3276800.size a := by
  intro a; match a with | 0 => exact hr
theorem oInb {r : ℕ} (hr : r + 2048 ≤ 3276800) : ∀ a, (![r, 0] : Fin 2 → ℕ) a + S2048x16.size a ≤ S3276800x16.size a := by
  intro a; match a with | 0 => exact hr | 1 => exact Nat.le_refl 16

/-! ## The rows `a` to `b - 1` of the gathered array as a set of its elements -/

/-- The elements of rows `a ≤ r < b`. -/
def rowsSet (a b : ℕ) : Finset S3276800x16.Idx := Finset.univ.filter fun x => a ≤ (x 0).val ∧ (x 0).val < b

theorem mem_rowsSet {a b : ℕ} {x : S3276800x16.Idx} : x ∈ rowsSet a b ↔ a ≤ (x 0).val ∧ (x 0).val < b := by
  simp [rowsSet]

theorem rowsSet_union {a b c : ℕ} (h₁ : a ≤ b) (h₂ : b ≤ c) : rowsSet a c = rowsSet a b ∪ rowsSet b c := by
  ext x; simp only [Finset.mem_union, mem_rowsSet]; omega
theorem rowsSet_disjoint {a b b' c : ℕ} (h : b ≤ b') : Disjoint (rowsSet a b) (rowsSet b' c) := by
  rw [Finset.disjoint_left]; intro x; simp only [mem_rowsSet]; omega
theorem rowsSet_self (a : ℕ) : rowsSet a a = ∅ := by
  ext x; simp only [mem_rowsSet, Finset.notMem_empty, iff_false]; omega
theorem rowsSet_all : rowsSet 0 3276800 = Finset.univ := by
  ext x; simp only [mem_rowsSet, Finset.mem_univ, iff_true]; exact ⟨Nat.zero_le _, (x 0).isLt⟩

/-- The window of the gathered array at row `r` is on its rows `r` to `r + 2047`. -/
theorem set_oWin (r : ℕ) (h) : (oWin r h).view.set = rowsSet r (r + 2048) := by
  show ((oV).view.slice (Rect.unit (s := S3276800x16) ![r, 0] S2048x16.size h)).set = _
  rw [View.set_slice]
  refine (Finset.map_refl (s := (Rect.unit (s := S3276800x16) ![r, 0] S2048x16.size h).set)).trans ?_
  ext x
  rw [Rect.mem_set_unit, mem_rowsSet]
  constructor
  · intro hx; exact hx 0
  · intro hx a
    match a with
    | 0 => exact hx
    | 1 => exact ⟨Nat.zero_le _, by show (x 1).val < 0 + 16; rw [Nat.zero_add]; exact (x 1).isLt⟩

/-- The rows `a` to `c - 1` held are the rows below `b` and those from `b` on. -/
theorem pts_rows_split {d : Dev nD} {q : PosShare TreeShare} {f : Buf (Elt F) (oLoc d)} {a b c : ℕ} (h₁ : a ≤ b) (h₂ : b ≤ c) :
    (oLoc d ↦[rowsSet a c]{q} f : sProp 𝕄) ⊣⊢ iprop((oLoc d ↦[rowsSet a b]{q} f) ∗ (oLoc d ↦[rowsSet b c]{q} f)) := by
  rw [rowsSet_union h₁ h₂]; exact pointsTo_union (rowsSet_disjoint (Nat.le_refl b))

end Cert.Proof.Gather

end
-- ==== Proof.Ops.lean ====
/- One lemma per kind of copy that a tile issues: the fetch of 2048 indices, the gather of 2048 rows of the table, the
   write-out of 2048 gathered rows, and the wait of each. Each states what the tile holds before and after. -/
module

public import proofs.«01_k».proof.Proof.Setup

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole Cert.KernelIdeal.main_v0_scv : Memref Cert.KernelIdeal.sig Kind.scVector Space.hbm Cert.KernelIdeal.S3276800 EltTy.i32)
local notation "eV" => (Memref.whole Cert.KernelIdeal.main_arg1_scv : Memref Cert.KernelIdeal.sig Kind.scVector Space.hbm Cert.KernelIdeal.S200x16 EltTy.f32)
local notation "oV" => (Memref.whole Cert.KernelIdeal.main_v1_scv : Memref Cert.KernelIdeal.sig Kind.scVector Space.hbm Cert.KernelIdeal.S3276800x16 EltTy.f32)

/-! ## The gathered rows -/

/-- Row `r` of the gathered array is the row of the table that word `r` of the index array names. -/
def gath (d : Dev nD) (X : Buf (Elt F) (xLoc d)) (hX : ∀ r, (X r).toNat < 200) (E : Buf (Elt F) (eLoc d)) : Buf (Elt F) (oLoc d) :=
  fun i => E fun | 0 => ⟨(X fun | 0 => i 0).toNat, hX _⟩ | 1 => i 1

section
variable (d : Dev nD) (c : Fin τ.nSC) (t : Fin τ.nSub)
variable (X : Buf (Elt F) (xLoc d)) (E : Buf (Elt F) (eLoc d)) (G : Buf (Elt F) (oLoc d))

/-- A buffer of the tile held outright at contents that read as `w`. -/
def holdsAt {s : Shape} {e : EltTy} (b : Memref sig .scVector .vmem s e) (w : s.Idx → Elt F e) : sProp 𝕄 :=
  iprop(∃ f : Buf (Elt F) (b.view.loc (V d c t)), ⌜b.view.read (Elt F) f = w⌝ ∗ (b.view.loc (V d c t) ↦[b.view.set]{fullShare} f))

/-- A buffer of the tile held outright at some contents. -/
def holdsAny {s : Shape} {e : EltTy} (b : Memref sig .scVector .vmem s e) : sProp 𝕄 :=
  iprop(∃ f : Buf (Elt F) (b.view.loc (V d c t)), (b.view.loc (V d c t) ↦[b.view.set]{fullShare} f))

/-- What the tile owes, its waits so far being those in `W` and some at no call. -/
def owesW (O : CellTallies nD τ sig (HIx 1)) (W : Waits sig (HIx 1)) : sProp 𝕄 :=
  iprop(∃ W' : Waits sig (HIx 1), ⌜∀ p ∈ W', p ∈ W ∨ p.2 = none⌝ ∗ owes (V d c t) O W')

theorem owesW_elim {O : CellTallies nD τ sig (HIx 1)} {W : Waits sig (HIx 1)} :
    (owesW d c t O W : sProp 𝕄) ⊢ iprop(∃ W' : Waits sig (HIx 1), ⌜∀ p ∈ W', p ∈ W ∨ p.2 = none⌝ ∗ owes (V d c t) O W') := by
  unfold owesW; iintro H; iexact H

theorem owesW_insert {O : CellTallies nD τ sig (HIx 1)} {W W' : Waits sig (HIx 1)} (sm : SemLoc sig) (h : ∀ p ∈ W', p ∈ W ∨ p.2 = none) :
    (owes (V d c t) O (insert (sm, (default : HIx 1)) W') : sProp 𝕄) ⊢ owesW d c t O W := by
  unfold owesW
  iintro HO
  iexists _
  isplitr
  swap; · iexact HO
  ipureintro
  intro p hp
  rcases Finset.mem_insert.1 hp with rfl | hp
  · exact Or.inr rfl
  · exact h p hp

theorem holdsAt_any {s : Shape} {e : EltTy} (b : Memref sig .scVector .vmem s e) (w : s.Idx → Elt F e) :
    (holdsAt d c t b w : sProp 𝕄) ⊢ holdsAny d c t b := by
  unfold holdsAt holdsAny
  iintro ⟨%f, -, H⟩
  iexists f; iexact H

/-- What a tile owes, before it has waited at all. -/
theorem owesW_self {O : CellTallies nD τ sig (HIx 1)} {W : Waits sig (HIx 1)} :
    (owes (V d c t) O W : sProp 𝕄) ⊢ owesW d c t O W := by
  unfold owesW
  iintro H
  iexists W
  isplitr
  · ipureintro; exact fun p hp => Or.inl hp
  · iexact H

/-- The 2048 indices from word `r` on. -/
abbrev xRead (r : ℕ) (hr : r + 2048 ≤ 3276800) : S2048.Idx → Elt F .i32 := (xWin r (xInb hr)).view.read (Elt F) X
/-- The 2048 gathered rows from row `r` on. -/
abbrev oRead (r : ℕ) (hr : r + 2048 ≤ 3276800) : S2048x16.Idx → Elt F .f32 := (oWin r (oInb hr)).view.read (Elt F) G

/-! ## The fetch of 2048 indices -/

/-- The fetch of the 2048 indices from word `r` on, in flight into `b`: what its wait hands back, and the rest of the
    tile's share of the index array. -/
def xFlight (b : Memref sig .scVector .vmem S2048 .i32) (sm : DmaSem sig) (q : PosShare TreeShare) (r : ℕ) (hr : r + 2048 ≤ 3276800) : sProp 𝕄 :=
  iprop(Transfers.Flight countersEmb (V d c t) (.dma sm) (default : HIx 1) b.view.dmaCredit
      iprop(holdsAt d c t b (xRead d X r hr) ∗ ((xWin r (xInb hr)).view.loc (V d c t) ↦[(xWin r (xInb hr)).view.set]{q} X))
    ∗ ((xWin r (xInb hr)).view.loc (V d c t) ↦[Finset.univ \ (xWin r (xInb hr)).view.set]{q} X))

variable [FloatOps F]

theorem wp_xFetch {α : Type} {Q : α → sProp 𝕄} (b : Memref sig .scVector .vmem S2048 .i32) (sm : DmaSem sig) (q : PosShare TreeShare) (r : ℕ) (hr : r + 2048 ≤ 3276800)
    {off : Fin 1 → ℕ} (hoff : off = ![r]) (hi : ∀ a, off a + S2048.size a ≤ S3276800.size a)
    {hs hd hT} {k : PUnit → Prog (TpuEff nD τ sig (Elt F) Λ₀ (V d c t).2) α} (hb : 0 < b.view.dmaCredit) :
    iprop((xLoc d ↦{q} X) ∗ holdsAny d c t b ∗ semVal (V d c t, SemLoc.dma sm) 0)
      ⊢ iprop((xFlight d c t X b sm q r hr -∗ wp frame (wpE (defs₀ (F := F)) 𝒱₀ (V d c t) none) Set.univ (k ⟨⟩) Q)
          -∗ wp frame (wpE (defs₀ (F := F)) 𝒱₀ (V d c t) none) Set.univ
            (.op (.enqueueDma ((xV).slice (Rect.unit (s := S3276800) off S2048.size hi) (fun _ => rfl)) (.here b) (.dma sm) hs hd hT) k) Q) := by
  subst hoff
  unfold holdsAny xFlight
  iintro ⟨Hx, ⟨%f, Hb⟩, Hz⟩ Hk
  ihave Hx' := (pointsTo_split_subset (ℓ := xLoc d) (q := q) (f := X) (S := Finset.univ) (Finset.subset_univ (xWin r (xInb hr)).view.set)).1 $$ Hx
  icases Hx' with ⟨Hx, Hxr⟩
  iapply (Transfers.wp_dmaLocal countersEmb 𝒱₀ (V d c t) none (src := xWin r (xInb hr)) (dst := b) (fs := X) (fd := f) (q := q)
    (default : HIx 1) b.view.dmaCredit rfl hb (Finset.Subset.refl _)) $$ [Hx Hb Hz]
  · isplitl [Hx]; · iexact Hx
    isplitl [Hb]; · iexact Hb
    iexact Hz
  iintro Hf
  iapply Hk
  isplitr [Hxr]
  · iapply (Transfers.Flight_mono countersEmb (V d c t) ?_) $$ Hf
    unfold holdsAt
    iintro ⟨Hb, Hx⟩
    isplitl [Hb]
    · iexists _
      isplitr
      swap; · iexact Hb
      ipureintro
      exact View.read_write_univ _ _
    · iexact Hx
  · iexact Hxr

theorem wp_xWait {α : Type} {Q : α → sProp 𝕄} (b : Memref sig .scVector .vmem S2048 .i32) (sm : DmaSem sig) (q : PosShare TreeShare) (r : ℕ) (hr : r + 2048 ≤ 3276800)
    {O : CellTallies nD τ sig (HIx 1)} {W : Waits sig (HIx 1)} {srcw : Memref sig .scVector .hbm S2048 .i32}
    {hs hd} {k : PUnit → Prog (TpuEff nD τ sig (Elt F) Λ₀ (V d c t).2) α} :
    iprop(xFlight d c t X b sm q r hr ∗ owesW d c t O W ∗ Transfers.MayWaits (V d c t) (default : HIx 1) O)
      ⊢ iprop((iprop((xLoc d ↦{q} X) ∗ holdsAt d c t b (xRead d X r hr) ∗ semVal (V d c t, SemLoc.dma sm) 0
              ∗ owesW d c t O W)
            -∗ wp frame (wpE (defs₀ (F := F)) 𝒱₀ (V d c t) none) Set.univ (k ⟨⟩) Q)
          -∗ wp frame (wpE (defs₀ (F := F)) 𝒱₀ (V d c t) none) Set.univ (.op (.waitDma2 sm srcw b hs hd) k) Q) := by
  unfold xFlight
  iintro ⟨⟨Hf, Hxr⟩, HOW, #Hmw⟩ Hk
  ihave HOW' := (owesW_elim d c t) $$ HOW
  icases HOW' with ⟨%W', %hW', HO⟩
  iapply (Transfers.wp_waitLocalO countersEmb 𝒱₀ (V d c t) none (default : HIx 1) (rfl : b.view.dmaCredit = _)) $$ [Hf HO]
  · isplitl [Hf]; · iexact Hf
    isplitl [HO]; · iexact HO
    iapply (Transfers.MayWaits.elim (SemLoc.dma sm)) $$ Hmw
  iintro ⟨⟨Hb, Hx⟩, Hz, HO⟩
  iapply Hk
  isplitl [Hx Hxr]
  · iapply (pointsTo_split_subset (ℓ := xLoc d) (q := q) (f := X) (S := Finset.univ) (Finset.subset_univ (xWin r (xInb hr)).view.set)).2
    isplitl [Hx]; · iexact Hx
    iexact Hxr
  isplitl [Hb]; · iexact Hb
  isplitl [Hz]; · iexact Hz
  iapply (owesW_insert d c t (SemLoc.dma sm) hW') $$ HO

/-! ## The gather of 2048 rows -/

/-- The gather of the rows of chunk `r` in flight into `b`, its indices in `l`. -/
def gFlight (b : Memref sig .scVector .vmem S2048x16 .f32) (l : Memref sig .scVector .vmem S2048 .i32) (sm : DmaSem sig) (q : PosShare TreeShare)
    (r : ℕ) (hr : r + 2048 ≤ 3276800) : sProp 𝕄 :=
  iprop(Transfers.Flight countersEmb (V d c t) (.dma sm) (default : HIx 1) b.view.dmaCredit
      iprop(holdsAt d c t b (oRead d G r hr) ∗ ((eWin).view.loc (V d c t) ↦[(eWin).view.set]{q} E) ∗ holdsAny d c t l)
    ∗ ((eWin).view.loc (V d c t) ↦[Finset.univ \ (eWin).view.set]{q} E))

/-- The rows that the gather writes, at the indices of chunk `r`, are the gathered array's rows from `r` on. -/
theorem payload_eq (hX : ∀ r, (X r).toNat < 200) (r : ℕ) (hr : r + 2048 ≤ 3276800) (w : S2048.Idx → Elt F .i32) (hw : w = xRead d X r hr)
    (hin : ∀ x, (w x).toNat < S200x16.size (gathers_S200x16_S2048x16).axis) :
    SparseCore.gatherPayload gathers_S200x16_S2048x16 ((eWin).view.read (Elt F) E)
        (SparseCore.rows w (rfl : S2048.numel = S2048x16.size (gathers_S200x16_S2048x16).axis') hin)
      = oRead d (gath d X hX E) r hr := by
  subst hw
  funext x
  let rows : Fin (S2048x16.size (gathers_S200x16_S2048x16).axis') → Fin (S200x16.size (gathers_S200x16_S2048x16).axis) := SparseCore.rows (xRead d X r hr) (rfl : S2048.numel = S2048x16.size (gathers_S200x16_S2048x16).axis') hin
  change E ((eWin).view.emb ((gathers_S200x16_S2048x16).idx rows x)) = E (fun | 0 => ⟨(X fun | 0 => ((oWin r (oInb hr)).view.emb x) 0).toNat, hX _⟩ | 1 => ((oWin r (oInb hr)).view.emb x) 1)
  congr 1
  funext a
  apply Fin.ext
  fin_cases a
  · -- the row: the word of the index array that the list's entry is
    change (0 : ℕ) + 1 * (((gathers_S200x16_S2048x16).idx rows x) (gathers_S200x16_S2048x16).axis).val = _
    refine (congrArg (fun z : Fin (S200x16.size (gathers_S200x16_S2048x16).axis) => 0 + 1 * z.val) (Shape.Gathers.idx_axis gathers_S200x16_S2048x16 rows x)).trans ?_
    have hk : (S2048.rowMajor.symm ((x 0).cast (rfl : S2048x16.size 0 = S2048.numel))) = (fun | 0 => x 0 : S2048.Idx) := by
      rw [Equiv.symm_apply_eq]
      apply Fin.ext
      exact (Shape.rowMajor_val_one (d := ![2048]) (fun | 0 => x 0)).symm
    change 0 + 1 * (xRead d X r hr (S2048.rowMajor.symm ((x 0).cast (rfl : S2048x16.size 0 = S2048.numel)))).toNat = _
    rw [hk, Nat.zero_add, Nat.one_mul]
    change (X ((xWin r (xInb hr)).view.emb (fun | 0 => x 0))).toNat = (X fun | 0 => ((oWin r (oInb hr)).view.emb x) 0).toNat
    congr 2
    funext a
    fin_cases a
    rfl
  · -- the column
    change (0 : ℕ) + 1 * (((gathers_S200x16_S2048x16).idx rows x) 1).val = 0 + 1 * (x 1).val
    exact congrArg (fun z : ℕ => 0 + 1 * z) (Shape.Gathers.idx_of_ne gathers_S200x16_S2048x16 rows x (1 : Fin 2) (by decide))

theorem wp_gStart {α : Type} {Q : α → sProp 𝕄} (hX : ∀ r, (X r).toNat < 200)
    (b : Memref sig .scVector .vmem S2048x16 .f32) (l : Memref sig .scVector .vmem S2048 .i32) (sm : DmaSem sig) (q : PosShare TreeShare)
    (r : ℕ) (hr : r + 2048 ≤ 3276800) {hs hd hT} {k : PUnit → Prog (TpuEff nD τ sig (Elt F) Λ₀ (V d c t).2) α} (hb : 0 < b.view.dmaCredit) :
    iprop((eLoc d ↦{q} E) ∗ holdsAny d c t b ∗ holdsAt d c t l (xRead d X r hr) ∗ semVal (V d c t, SemLoc.dma sm) 0)
      ⊢ iprop((gFlight d c t E (gath d X hX E) b l sm q r hr -∗ wp frame (wpE (defs₀ (F := F)) 𝒱₀ (V d c t) none) Set.univ (k ⟨⟩) Q)
          -∗ wp frame (wpE (defs₀ (F := F)) 𝒱₀ (V d c t) none) Set.univ
            (Prog.bind (SparseCore.enqueueIndirectGather rfl eWin b
              gathers_S200x16_S2048x16 l rfl sm hs hd hT) k) Q) := by
  unfold holdsAny holdsAt
  iintro ⟨He, ⟨%f, Hb⟩, ⟨%w, %hw, Hl⟩, Hz⟩ Hk
  ihave He' := (pointsTo_split_subset (ℓ := eLoc d) (q := q) (f := E) (S := Finset.univ) (Finset.subset_univ (eWin).view.set)).1 $$ He
  icases He' with ⟨He, Her⟩
  have hin : ∀ x, (l.view.read (Elt F) w x).toNat < S200x16.size (gathers_S200x16_S2048x16).axis := by
    intro x; rw [hw]; exact hX _
  iapply (SparseCore.wp_indirectGatherLocal countersEmb 𝒱₀ (V d c t) none (hg := gathers_S200x16_S2048x16) (src := eWin) (dst := b) (offs := l)
    (fs := E) (fd := f) (fo := w) (q := q) (qo := fullShare)
    (default : HIx 1) b.view.dmaCredit (SparseCore.sum_rowCredit_eq_dmaCredit b _ (fun _ => rfl)) (by decide) hin) $$ [He Hb Hl Hz]
  · isplitl [He]; · iexact He
    isplitl [Hb]; · iexact Hb
    isplitl [Hl]; · iexact Hl
    iexact Hz
  iintro Hf
  iapply Hk
  unfold gFlight
  isplitr [Her]
  · iapply (Transfers.Flight_mono countersEmb (V d c t) ?_) $$ Hf
    unfold holdsAt holdsAny
    iintro ⟨Hb, He, Hl⟩
    isplitl [Hb]
    · iexists _
      isplitr
      swap; · iexact Hb
      ipureintro
      rw [View.read_write_univ]
      exact payload_eq d X E hX r hr _ hw _
    isplitl [He]; · iexact He
    iexists _; iexact Hl
  · iexact Her

theorem wp_gWait {α : Type} {Q : α → sProp 𝕄}
    (b : Memref sig .scVector .vmem S2048x16 .f32) (l : Memref sig .scVector .vmem S2048 .i32) (sm : DmaSem sig) (q : PosShare TreeShare)
    (r : ℕ) (hr : r + 2048 ≤ 3276800) {O : CellTallies nD τ sig (HIx 1)} {W : Waits sig (HIx 1)} {srcw : Memref sig .scVector .hbm S200x16 .f32}
    {hs hd} {k : PUnit → Prog (TpuEff nD τ sig (Elt F) Λ₀ (V d c t).2) α} :
    iprop(gFlight d c t E G b l sm q r hr ∗ owesW d c t O W ∗ Transfers.MayWaits (V d c t) (default : HIx 1) O)
      ⊢ iprop((iprop((eLoc d ↦{q} E) ∗ holdsAt d c t b (oRead d G r hr) ∗ holdsAny d c t l ∗ semVal (V d c t, SemLoc.dma sm) 0
              ∗ owesW d c t O W)
            -∗ wp frame (wpE (defs₀ (F := F)) 𝒱₀ (V d c t) none) Set.univ (k ⟨⟩) Q)
          -∗ wp frame (wpE (defs₀ (F := F)) 𝒱₀ (V d c t) none) Set.univ
            (Prog.bind (SparseCore.waitIndirectGather sm srcw b hs hd) k) Q) := by
  unfold gFlight
  iintro ⟨⟨Hf, Her⟩, HOW, #Hmw⟩ Hk
  ihave HOW' := (owesW_elim d c t) $$ HOW
  icases HOW' with ⟨%W', %hW', HO⟩
  iapply (Transfers.wp_waitLocalO countersEmb 𝒱₀ (V d c t) none (default : HIx 1) (rfl : b.view.dmaCredit = _)) $$ [Hf HO]
  · isplitl [Hf]; · iexact Hf
    isplitl [HO]; · iexact HO
    iapply (Transfers.MayWaits.elim (SemLoc.dma sm)) $$ Hmw
  iintro ⟨⟨Hb, He, Hl⟩, Hz, HO⟩
  iapply Hk
  isplitl [He Her]
  · iapply (pointsTo_split_subset (ℓ := eLoc d) (q := q) (f := E) (S := Finset.univ) (Finset.subset_univ (eWin).view.set)).2
    isplitl [He]; · iexact He
    iexact Her
  isplitl [Hb]; · iexact Hb
  isplitl [Hl]; · iexact Hl
  isplitl [Hz]; · iexact Hz
  iapply (owesW_insert d c t (SemLoc.dma sm) hW') $$ HO

/-! ## The write-out of 2048 rows -/

theorem oCredit_pos : 0 < (oWin 0 (oInb (by omega))).view.dmaCredit := by decide

/-- The write-out of `b` to the rows from `r` on, in flight. -/
def oFlight (b : Memref sig .scVector .vmem S2048x16 .f32) (sm : DmaSem sig) (r : ℕ) : sProp 𝕄 :=
  Transfers.Flight countersEmb (V d c t) (.dma sm) (default : HIx 1) (oWin 0 (oInb (by omega))).view.dmaCredit
      iprop((oLoc d ↦[rowsSet r (r + 2048)]{fullShare} G) ∗ holdsAny d c t b)

theorem wp_oStart {α : Type} {Q : α → sProp 𝕄} (b : Memref sig .scVector .vmem S2048x16 .f32) (sm : DmaSem sig)
    (r : ℕ) (hr : r + 2048 ≤ 3276800) {off : Fin 2 → ℕ} (hoff : off = ![r, 0]) (hi : ∀ a, off a + S2048x16.size a ≤ S3276800x16.size a)
    (f₀ : Buf (Elt F) (oLoc d))
    {hs hd hT} {k : PUnit → Prog (TpuEff nD τ sig (Elt F) Λ₀ (V d c t).2) α} :
    iprop((oLoc d ↦[rowsSet r (r + 2048)]{fullShare} f₀) ∗ holdsAt d c t b (oRead d G r hr) ∗ semVal (V d c t, SemLoc.dma sm) 0)
      ⊢ iprop((oFlight d c t G b sm r -∗ wp frame (wpE (defs₀ (F := F)) 𝒱₀ (V d c t) none) Set.univ (k ⟨⟩) Q)
          -∗ wp frame (wpE (defs₀ (F := F)) 𝒱₀ (V d c t) none) Set.univ
            (.op (.enqueueDma b (.here ((oV).slice (Rect.unit (s := S3276800x16) off S2048x16.size hi) (fun _ => rfl))) (.dma sm) hs hd hT) k) Q) := by
  subst hoff
  unfold holdsAt
  iintro ⟨Ho, ⟨%f, %hf, Hb⟩, Hz⟩ Hk
  rw [← set_oWin r (oInb hr)]
  iapply (Transfers.wp_dmaLocal countersEmb 𝒱₀ (V d c t) none (src := b) (dst := oWin r (oInb hr)) (fs := f) (fd := f₀) (q := fullShare)
    (default : HIx 1) (oWin 0 (oInb (by omega))).view.dmaCredit rfl oCredit_pos (Finset.Subset.refl _)) $$ [Ho Hb Hz]
  · isplitl [Hb]; · iexact Hb
    isplitl [Ho]; · iexact Ho
    iexact Hz
  iintro Hf
  iapply Hk
  unfold oFlight
  iapply (Transfers.Flight_mono countersEmb (V d c t) ?_) $$ Hf
  unfold holdsAny
  iintro ⟨Ho, Hb⟩
  isplitl [Ho]
  · rw [← set_oWin r (oInb hr)]
    iapply (BiEntails.of_eq (pointsTo_congr (ℓ := oLoc d) (q := fullShare) (I := (oWin r (oInb hr)).view.set) (g := G) ?_)).1 $$ Ho
    intro i hi
    change (oWin r (oInb hr)).view.write (Elt F) f₀ (b.view.read (Elt F) f) Finset.univ i = G i
    rw [hf]
    change (oWin r (oInb hr)).view.write (Elt F) f₀ ((oWin r (oInb hr)).view.read (Elt F) G) Finset.univ i = G i
    rw [View.write_read_eq_piecewise]
    exact Finset.piecewise_eq_of_mem _ _ _ hi
  · iexists _; iexact Hb

theorem wp_oWait {α : Type} {Q : α → sProp 𝕄} (b : Memref sig .scVector .vmem S2048x16 .f32) (sm : DmaSem sig) (r : ℕ)
    {O : CellTallies nD τ sig (HIx 1)} {W : Waits sig (HIx 1)} {srcw : Memref sig .scVector .vmem S2048x16 .f32}
    {off : Fin 2 → ℕ} {hi : ∀ a, off a + S2048x16.size a ≤ S3276800x16.size a}
    {hs hd} {k : PUnit → Prog (TpuEff nD τ sig (Elt F) Λ₀ (V d c t).2) α} :
    iprop(oFlight d c t G b sm r ∗ owesW d c t O W ∗ Transfers.MayWaits (V d c t) (default : HIx 1) O)
      ⊢ iprop((iprop((oLoc d ↦[rowsSet r (r + 2048)]{fullShare} G) ∗ holdsAny d c t b ∗ semVal (V d c t, SemLoc.dma sm) 0
              ∗ owesW d c t O W)
            -∗ wp frame (wpE (defs₀ (F := F)) 𝒱₀ (V d c t) none) Set.univ (k ⟨⟩) Q)
          -∗ wp frame (wpE (defs₀ (F := F)) 𝒱₀ (V d c t) none) Set.univ
            (.op (.waitDma2 sm srcw ((oV).slice (Rect.unit (s := S3276800x16) off S2048x16.size hi) (fun _ => rfl)) hs hd) k) Q) := by
  unfold oFlight
  iintro ⟨Hf, HOW, #Hmw⟩ Hk
  ihave HOW' := (owesW_elim d c t) $$ HOW
  icases HOW' with ⟨%W', %hW', HO⟩
  iapply (Transfers.wp_waitLocalO countersEmb 𝒱₀ (V d c t) none (default : HIx 1)
    (dstw := ((oV).slice (Rect.unit (s := S3276800x16) off S2048x16.size hi) (fun _ => rfl)))
    (rfl : _ = (oWin 0 (oInb (by omega))).view.dmaCredit)) $$ [Hf HO]
  · isplitl [Hf]; · iexact Hf
    isplitl [HO]; · iexact HO
    iapply (Transfers.MayWaits.elim (SemLoc.dma sm)) $$ Hmw
  iintro ⟨⟨Ho, Hb⟩, Hz, HO⟩
  iapply Hk
  isplitl [Ho]; · iexact Ho
  isplitl [Hb]; · iexact Hb
  isplitl [Hz]; · iexact Hz
  iapply (owesW_insert d c t (SemLoc.dma sm) hW') $$ HO

end

end Cert.Proof.Gather

end
-- ==== Proof.Tile.lean ====
/- The body of one tile: from its share of the index array and of the table and its rows of the gathered array at any
   contents, it ends with its rows holding the rows of the table that its indices name. -/
module

public import proofs.«01_k».proof.Proof.Ops

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole Cert.KernelIdeal.main_v0_scv : Memref Cert.KernelIdeal.sig Kind.scVector Space.hbm Cert.KernelIdeal.S3276800 EltTy.i32)
local notation "eV" => (Memref.whole Cert.KernelIdeal.main_arg1_scv : Memref Cert.KernelIdeal.sig Kind.scVector Space.hbm Cert.KernelIdeal.S200x16 EltTy.f32)
local notation "oV" => (Memref.whole Cert.KernelIdeal.main_v1_scv : Memref Cert.KernelIdeal.sig Kind.scVector Space.hbm Cert.KernelIdeal.S3276800x16 EltTy.f32)

/-! ## The offsets and the conditions -/

/-- The first row of tile `i`. -/
def base (i : grid0.Coords) : ℕ := 204800 * (i 1).val + 102400 * (i 0).val

theorem base_le (i : grid0.Coords) : base i + 102400 ≤ 3276800 := by
  have h0 : (i 0).val < 2 := (i 0).isLt
  have h1 : (i 1).val < 16 := (i 1).isLt
  unfold base; omega

/-- The SparseCore and the vector subcore of tile `i`. -/
abbrev cI (i : grid0.Coords) : Fin τ.nSC := (i 0).castLE hcore0
abbrev tI (i : grid0.Coords) : Fin τ.nSub := (i 1).castLE hsub0

theorem trips_eq : k0_t1_loop.trips = 25 := by decide +kernel
theorem cond1_iff : ∀ k : Fin k0_t1_loop.trips, k0_cond1 k = 1#1 ↔ k.val ≠ 0 := by decide +kernel
theorem cond2_iff : ∀ k : Fin k0_t1_loop.trips, k0_cond2 k = 1#1 ↔ k.val ≠ 0 := by decide +kernel
theorem cond3_iff : ∀ k : Fin k0_t1_loop.trips, k0_cond3 k = 1#1 ↔ k.val + 1 < 25 := by decide +kernel
theorem cond4_iff : ∀ k : Fin k0_t1_loop.trips, k0_cond4 k = 1#1 ↔ k.val + 1 < 25 := by decide +kernel

section
variable (d : Dev nD) (c : Fin τ.nSC) (t : Fin τ.nSub)
variable (X : Buf (Elt F) (xLoc d)) (E : Buf (Elt F) (eLoc d)) (G : Buf (Elt F) (oLoc d))

/-- An index buffer before trip `j`: its fetch in flight, or, after the last trip, nothing in flight. -/
def xSlot (b : Memref sig .scVector .vmem S2048 .i32) (sm : DmaSem sig) (q : PosShare TreeShare) (j r : ℕ) (hr : j < 25 → r + 2048 ≤ 3276800) : sProp 𝕄 :=
  if h : j < 25 then xFlight d c t X b sm q r (hr h)
  else iprop((xLoc d ↦{q} X) ∗ holdsAny d c t b ∗ semVal (V d c t, SemLoc.dma sm) 0)

/-- A row buffer before trip `j`: before the first nothing is in flight, afterwards its write-out is. -/
def oSlot (b : Memref sig .scVector .vmem S2048x16 .f32) (sm : DmaSem sig) (j r : ℕ) : sProp 𝕄 :=
  if j = 0 then iprop(holdsAny d c t b ∗ semVal (V d c t, SemLoc.dma sm) 0) else oFlight d c t G b sm r

variable [FloatOps F]

omit [FloatOps F] in
theorem xSlot_of_lt (b : Memref sig .scVector .vmem S2048 .i32) (sm : DmaSem sig) (q : PosShare TreeShare) (j r : ℕ) (hr : j < 25 → r + 2048 ≤ 3276800) (h : j < 25) :
    (xSlot d c t X b sm q j r hr : sProp 𝕄) = xFlight d c t X b sm q r (hr h) := by
  unfold xSlot; rw [dif_pos h]

omit [FloatOps F] in
theorem oSlot_succ (b : Memref sig .scVector .vmem S2048x16 .f32) (sm : DmaSem sig) (j r : ℕ) :
    (oSlot d c t G b sm (j + 1) r : sProp 𝕄) = oFlight d c t G b sm r := by
  unfold oSlot; rw [if_neg (Nat.succ_ne_zero j)]

theorem wp_xFetchIf {α : Type} {Q : α → sProp 𝕄} (b : Memref sig .scVector .vmem S2048 .i32) (sm : DmaSem sig) (q : PosShare TreeShare) (j r : ℕ) (hr : j < 25 → r + 2048 ≤ 3276800)
    {cc : Prop} [Decidable cc] (hcc : cc ↔ j < 25) {off : Fin 1 → ℕ} (hoff : j < 25 → off = ![r]) (hi : cc → ∀ a, off a + S2048.size a ≤ S3276800.size a)
    {hs : ∀ h : cc, ((xV).slice (Rect.unit (s := S3276800) off S2048.size (hi h)) (fun _ => rfl)).view.WordExact} {hd : (DmaTarget.here (p := (V d c t).2) b).view.WordExact}
    {hT : ∀ _ : cc, DmaTarget.Typed Space.hbm (SemLoc.dma sm) (DmaTarget.here (p := (V d c t).2) b)} {K : Prog (TpuEff nD τ sig (Elt F) Λ₀ (V d c t).2) α} (hb : 0 < b.view.dmaCredit) :
    iprop((xLoc d ↦{q} X) ∗ holdsAny d c t b ∗ semVal (V d c t, SemLoc.dma sm) 0)
      ⊢ iprop((xSlot d c t X b sm q j r hr -∗ wp frame (wpE (defs₀ (F := F)) 𝒱₀ (V d c t) none) Set.univ K Q)
          -∗ wp frame (wpE (defs₀ (F := F)) 𝒱₀ (V d c t) none) Set.univ
            (if h : cc then (.op (.enqueueDma ((xV).slice (Rect.unit (s := S3276800) off S2048.size (hi h)) (fun _ => rfl)) (.here b) (.dma sm) (hs h) hd (hT h)) fun _ => K) else K) Q) := by
  by_cases h : cc
  · have hj := hcc.1 h
    rw [dif_pos h]
    unfold xSlot
    rw [dif_pos hj]
    exact wp_xFetch d c t X b sm q r (hr hj) (hoff hj) (hi h) (k := fun _ => K) hb
  · have hj : ¬ j < 25 := fun hj => h (hcc.2 hj)
    rw [dif_neg h]
    unfold xSlot
    rw [dif_neg hj]
    iintro H Hk
    iapply Hk
    iexact H

theorem wp_oWaitIf {α : Type} {Q : α → sProp 𝕄} (b : Memref sig .scVector .vmem S2048x16 .f32) (sm : DmaSem sig) (j r : ℕ)
    {cc : Prop} [Decidable cc] (hcc : cc ↔ j ≠ 0) (a₀ a a' : ℕ) (h₀ : j = 0 → a' = a) (h₁ : j ≠ 0 → r = a ∧ a' = a + 2048) (ha : a₀ ≤ a)
    {O : CellTallies nD τ sig (HIx 1)} {W : Waits sig (HIx 1)} {srcw : Memref sig .scVector .vmem S2048x16 .f32}
    {off : Fin 2 → ℕ} {hi : cc → ∀ a, off a + S2048x16.size a ≤ S3276800x16.size a}
    {hs} {hd : ∀ h : cc, ((oV).slice (Rect.unit (s := S3276800x16) off S2048x16.size (hi h)) (fun _ => rfl)).view.WordExact} {K : Prog (TpuEff nD τ sig (Elt F) Λ₀ (V d c t).2) α} :
    iprop(oSlot d c t G b sm j r ∗ (oLoc d ↦[rowsSet a₀ a]{fullShare} G) ∗ owesW d c t O W ∗ Transfers.MayWaits (V d c t) (default : HIx 1) O)
      ⊢ iprop((iprop((oLoc d ↦[rowsSet a₀ a']{fullShare} G) ∗ holdsAny d c t b ∗ semVal (V d c t, SemLoc.dma sm) 0 ∗ owesW d c t O W)
            -∗ wp frame (wpE (defs₀ (F := F)) 𝒱₀ (V d c t) none) Set.univ K Q)
          -∗ wp frame (wpE (defs₀ (F := F)) 𝒱₀ (V d c t) none) Set.univ
            (if h : cc then (.op (.waitDma2 sm srcw ((oV).slice (Rect.unit (s := S3276800x16) off S2048x16.size (hi h)) (fun _ => rfl)) hs (hd h)) fun _ => K) else K) Q) := by
  by_cases h : cc
  · have hj := hcc.1 h
    obtain ⟨rfl, rfl⟩ := h₁ hj
    rw [dif_pos h]
    unfold oSlot
    rw [if_neg hj]
    iintro ⟨Hf, Hd, HO, #Hmw⟩ Hk
    iapply (wp_oWait d c t G b sm r) $$ [Hf HO]
    · isplitl [Hf]; · iexact Hf
      isplitl [HO]; · iexact HO
      iexact Hmw
    iintro ⟨Ho, Hb, Hz, HO⟩
    iapply Hk
    isplitl [Ho Hd]
    · iapply (pts_rows_split ha (Nat.le_add_right r 2048)).2
      isplitl [Hd]; · iexact Hd
      iexact Ho
    isplitl [Hb]; · iexact Hb
    isplitl [Hz]; · iexact Hz
    iexact HO
  · have hj : j = 0 := by by_contra hj; exact h (hcc.2 hj)
    obtain rfl := h₀ hj
    rw [dif_neg h]
    unfold oSlot
    rw [if_pos hj]
    iintro ⟨⟨Hb, Hz⟩, Hd, HO, #Hmw⟩ Hk
    iapply Hk
    isplitl [Hd]; · iexact Hd
    isplitl [Hb]; · iexact Hb
    isplitl [Hz]; · iexact Hz
    iexact HO
end

/-! ## The loop -/

section
variable (d : Dev nD) (i : grid0.Coords)
variable (X : Buf (Elt F) (xLoc d)) (E : Buf (Elt F) (eLoc d)) (G f₀ : Buf (Elt F) (oLoc d))
variable (arg5 arg6 : Memref sig .scVector .vmem S2048 .i32) (arg7 arg8 : Memref sig .scVector .vmem S2048x16 .f32)
  (arg9 arg10 arg11 arg12 arg13 arg14 : DmaSems sig S_) (q₁ q₂ p₁ p₂ : PosShare TreeShare)
  (O : CellTallies nD τ sig (HIx 1)) (W : Waits sig (HIx 1))

theorem rbnd₁ (j : ℕ) (h : j < 25) : base i + 4096 * j + 2048 ≤ 3276800 := by have := base_le i; omega
theorem rbnd₂ (j : ℕ) (h : j < 25) : base i + 4096 * j + 2048 + 2048 ≤ 3276800 := by have := base_le i; omega

/-- What the tile holds before trip `j` of the loop: the two index buffers' fetches, the two row buffers' write-outs, the
    rows written and waited for, and the rows still to write. -/
def IL (j : ℕ) (_ : PUnit) : sProp 𝕄 :=
  iprop(owesW d (cI i) (tI i) O W
    ∗ xSlot d (cI i) (tI i) X arg5 arg9.sem q₁ j (base i + 4096 * j) (rbnd₁ i j)
    ∗ xSlot d (cI i) (tI i) X arg6 arg10.sem q₂ j (base i + 4096 * j + 2048) (rbnd₂ i j)
    ∗ (eLoc d ↦{p₁} E) ∗ (eLoc d ↦{p₂} E)
    ∗ semVal (V d (cI i) (tI i), SemLoc.dma arg11.sem) 0 ∗ semVal (V d (cI i) (tI i), SemLoc.dma arg12.sem) 0
    ∗ oSlot d (cI i) (tI i) G arg7 arg13.sem j (base i + 4096 * (j - 1))
    ∗ oSlot d (cI i) (tI i) G arg8 arg14.sem j (base i + 4096 * (j - 1) + 2048)
    ∗ (oLoc d ↦[rowsSet (base i) (base i + 4096 * (j - 1))]{fullShare} G)
    ∗ (oLoc d ↦[rowsSet (base i + 4096 * j) (base i + 102400)]{fullShare} f₀))

variable [FloatOps F]
variable (harg5 : arg5.IsWhole) (harg6 : arg6.IsWhole) (harg7 : arg7.IsWhole) (harg8 : arg8.IsWhole)
  (hb5 : 0 < arg5.view.dmaCredit) (hb6 : 0 < arg6.view.dmaCredit) (hb7 : 0 < arg7.view.dmaCredit) (hb8 : 0 < arg8.view.dmaCredit)

include hb5 hb6 hb7 hb8 in
theorem wp_trip (hX : ∀ r, (X r).toNat < 200) (hG : G = gath d X hX E) (v2 : BitVec 32) (k : Fin k0_t1_loop.trips) (acc : PUnit) :
    iprop(IL d i X E G f₀ arg5 arg6 arg7 arg8 arg9 arg10 arg11 arg12 arg13 arg14 q₁ q₂ p₁ p₂ O W k.val acc ∗ Transfers.MayWaits (V d (cI i) (tI i)) (default : HIx 1) O)
      ⊢ wp frame (wpE (defs₀ (F := F)) 𝒱₀ (V d (cI i) (tI i)) none) Set.univ
          (k0_t1_body i xV (Memref.isWhole_whole _) eV (Memref.isWhole_whole _) oV (Memref.isWhole_whole _) arg5 harg5 arg6 harg6 arg7 harg7 arg8 harg8
            arg9 arg10 arg11 arg12 arg13 arg14 v2 k acc)
          (fun acc' => iprop(IL d i X E G f₀ arg5 arg6 arg7 arg8 arg9 arg10 arg11 arg12 arg13 arg14 q₁ q₂ p₁ p₂ O W (k.val + 1) acc'
            ∗ Transfers.MayWaits (V d (cI i) (tI i)) (default : HIx 1) O)) := by
  have hk : k.val < 25 := trips_eq ▸ k.isLt
  have hB := base_le i
  simp only [k0_t1_body, k0_part1_eq_skeleton]
  unfold k0_part1_skel
  simp only [Prog.lift, Prog.bind_op, Prog.bind_ret, Prog.pure_eq_ret, Prog.bind_assoc]
  subst hG
  unfold IL
  rw [xSlot_of_lt d (cI i) (tI i) X arg5 arg9.sem q₁ k.val (base i + 4096 * k.val) (rbnd₁ i k.val) hk,
    xSlot_of_lt d (cI i) (tI i) X arg6 arg10.sem q₂ k.val (base i + 4096 * k.val + 2048) (rbnd₂ i k.val) hk, oSlot_succ, oSlot_succ,
    show k.val + 1 - 1 = k.val from rfl]
  iintro ⟨⟨HO, Hx1, Hx2, He1, He2, Hz11, Hz12, Ho1, Ho2, Hd, Ht⟩, #Hmw⟩
  -- the first chunk's indices are in
  iapply (wp_xWait d _ _ X arg5 arg9.sem q₁ (base i + 4096 * k.val) (rbnd₁ i k hk)) $$ [Hx1 HO]
  · isplitl [Hx1]; · iexact Hx1
    isplitl [HO]; · iexact HO
    iexact Hmw
  iintro ⟨Hx1, Hl1, Hz9, HO⟩
  rw [wp_bind]
  -- the first row buffer is free
  iapply (wp_oWaitIf d _ _ (gath d X hX E) arg7 arg13.sem k.val (base i + 4096 * (k.val - 1)) (cond1_iff k) (base i) (base i + 4096 * (k.val - 1))
    (if k.val = 0 then base i else base i + 4096 * (k.val - 1) + 2048) (by intro h; simp [h]) (by intro h; simp [h]) (by omega)) $$ [Ho1 Hd HO]
  · isplitl [Ho1]; · iexact Ho1
    isplitl [Hd]; · iexact Hd
    isplitl [HO]; · iexact HO
    iexact Hmw
  iintro ⟨Hd, Hr1, Hz13, HO⟩
  -- its gather starts
  iapply (wp_gStart d _ _ X E hX arg7 arg5 arg11.sem p₁ (base i + 4096 * k.val) (rbnd₁ i k hk) hb7) $$ [He1 Hr1 Hl1 Hz11]
  · isplitl [He1]; · iexact He1
    isplitl [Hr1]; · iexact Hr1
    isplitl [Hl1]; · iexact Hl1
    iexact Hz11
  iintro Hg1
  -- the second chunk's indices are in
  iapply (wp_xWait d _ _ X arg6 arg10.sem q₂ (base i + 4096 * k.val + 2048) (rbnd₂ i k hk)) $$ [Hx2 HO]
  · isplitl [Hx2]; · iexact Hx2
    isplitl [HO]; · iexact HO
    iexact Hmw
  iintro ⟨Hx2, Hl2, Hz10, HO⟩
  -- the second row buffer is free
  iapply (wp_oWaitIf d _ _ (gath d X hX E) arg8 arg14.sem k.val (base i + 4096 * (k.val - 1) + 2048) (cond2_iff k) (base i)
    (if k.val = 0 then base i else base i + 4096 * (k.val - 1) + 2048) (base i + 4096 * k.val)
    (by intro h; simp [h]) (by intro h; rw [if_neg h]; omega) (by split <;> omega)) $$ [Ho2 Hd HO]
  · isplitl [Ho2]; · iexact Ho2
    isplitl [Hd]; · iexact Hd
    isplitl [HO]; · iexact HO
    iexact Hmw
  iintro ⟨Hd, Hr2, Hz14, HO⟩
  -- its gather starts
  iapply (wp_gStart d _ _ X E hX arg8 arg6 arg12.sem p₂ (base i + 4096 * k.val + 2048) (rbnd₂ i k hk) hb8) $$ [He2 Hr2 Hl2 Hz12]
  · isplitl [He2]; · iexact He2
    isplitl [Hr2]; · iexact Hr2
    isplitl [Hl2]; · iexact Hl2
    iexact Hz12
  iintro Hg2
  -- the first gather is done
  iapply (wp_gWait d _ _ E (gath d X hX E) arg7 arg5 arg11.sem p₁ (base i + 4096 * k.val) (rbnd₁ i k hk)) $$ [Hg1 HO]
  · isplitl [Hg1]; · iexact Hg1
    isplitl [HO]; · iexact HO
    iexact Hmw
  iintro ⟨He1, Hr1, Hl1, Hz11, HO⟩
  -- its rows go out
  ihave Ht' := (pts_rows_split (F := F) (d := d) (q := fullShare) (f := f₀) (a := base i + 4096 * k.val) (b := base i + 4096 * k.val + 2048) (c := base i + 102400) (by omega) (by omega)).1 $$ Ht
  icases Ht' with ⟨Ht1, Ht⟩
  iapply (wp_oStart d _ _ (gath d X hX E) arg7 arg13.sem (base i + 4096 * k.val) (rbnd₁ i k hk) (k0_off6_eq i k) _ f₀) $$ [Ht1 Hr1 Hz13]
  · isplitl [Ht1]; · iexact Ht1
    isplitl [Hr1]; · iexact Hr1
    iexact Hz13
  iintro Ho1
  -- the first chunk's next indices are fetched, if there are any
  iapply (wp_xFetchIf d _ _ X arg5 arg9.sem q₁ (k.val + 1) (base i + 4096 * (k.val + 1)) (rbnd₁ i (k.val + 1)) (cond3_iff k)
    (fun _ => (k0_off7_eq i k).trans (congrArg (fun r : ℕ => (![r] : Fin 1 → ℕ)) (by unfold base; omega))) _ hb5) $$ [Hx1 Hl1 Hz9]
  · isplitl [Hx1]; · iexact Hx1
    isplitl [Hl1]; · iexact Hl1
    iexact Hz9
  iintro Hx1
  -- the second gather is done
  iapply (wp_gWait d _ _ E (gath d X hX E) arg8 arg6 arg12.sem p₂ (base i + 4096 * k.val + 2048) (rbnd₂ i k hk)) $$ [Hg2 HO]
  · isplitl [Hg2]; · iexact Hg2
    isplitl [HO]; · iexact HO
    iexact Hmw
  iintro ⟨He2, Hr2, Hl2, Hz12, HO⟩
  rw [wp_ret]
  imodintro
  -- its rows go out
  ihave Ht' := (pts_rows_split (F := F) (d := d) (q := fullShare) (f := f₀) (a := base i + 4096 * k.val + 2048) (b := base i + 4096 * k.val + 2048 + 2048) (c := base i + 102400) (by omega) (by omega)).1 $$ Ht
  icases Ht' with ⟨Ht1, Ht⟩
  iapply (wp_oStart d _ _ (gath d X hX E) arg8 arg14.sem (base i + 4096 * k.val + 2048) (rbnd₂ i k hk) (k0_off8_eq i k) _ f₀) $$ [Ht1 Hr2 Hz14]
  · isplitl [Ht1]; · iexact Ht1
    isplitl [Hr2]; · iexact Hr2
    iexact Hz14
  iintro Ho2
  -- the second chunk's next indices are fetched, if there are any
  iapply (wp_xFetchIf d _ _ X arg6 arg10.sem q₂ (k.val + 1) (base i + 4096 * (k.val + 1) + 2048) (rbnd₂ i (k.val + 1)) (cond4_iff k)
    (fun _ => (k0_off9_eq i k).trans (congrArg (fun r : ℕ => (![r] : Fin 1 → ℕ)) (by unfold base; omega))) _ hb6) $$ [Hx2 Hl2 Hz10]
  · isplitl [Hx2]; · iexact Hx2
    isplitl [Hl2]; · iexact Hl2
    iexact Hz10
  iintro Hx2
  rw [wp_ret]
  imodintro
  isplitl; swap; · iexact Hmw
  isplitl [HO]; · iexact HO
  isplitl [Hx1]; · iexact Hx1
  isplitl [Hx2]; · iexact Hx2
  isplitl [He1]; · iexact He1
  isplitl [He2]; · iexact He2
  isplitl [Hz11]; · iexact Hz11
  isplitl [Hz12]; · iexact Hz12
  isplitl [Ho1]; · iexact Ho1
  isplitl [Ho2]; · iexact Ho2
  isplitl [Hd]; · iexact Hd
  rw [show base i + 4096 * (k.val + 1) = base i + 4096 * k.val + 2048 + 2048 by omega]
  iexact Ht

include hb5 hb6 hb7 hb8 in
/-- The body: the tile's rows of the gathered array end at the rows that its indices name, and everything else it was
    handed comes back. -/
theorem wp_tile (hX : ∀ r, (X r).toNat < 200) (hG : G = gath d X hX E) :
    iprop(owesW d (cI i) (tI i) O W ∗ (xLoc d ↦{q₁} X) ∗ (xLoc d ↦{q₂} X) ∗ (eLoc d ↦{p₁} E) ∗ (eLoc d ↦{p₂} E)
        ∗ holdsAny d (cI i) (tI i) arg5 ∗ holdsAny d (cI i) (tI i) arg6 ∗ holdsAny d (cI i) (tI i) arg7 ∗ holdsAny d (cI i) (tI i) arg8
        ∗ semVal (V d (cI i) (tI i), SemLoc.dma arg9.sem) 0 ∗ semVal (V d (cI i) (tI i), SemLoc.dma arg10.sem) 0
        ∗ semVal (V d (cI i) (tI i), SemLoc.dma arg11.sem) 0 ∗ semVal (V d (cI i) (tI i), SemLoc.dma arg12.sem) 0
        ∗ semVal (V d (cI i) (tI i), SemLoc.dma arg13.sem) 0 ∗ semVal (V d (cI i) (tI i), SemLoc.dma arg14.sem) 0
        ∗ (oLoc d ↦[rowsSet (base i) (base i + 102400)]{fullShare} f₀)
        ∗ Transfers.MayWaits (V d (cI i) (tI i)) (default : HIx 1) O)
      ⊢ wp frame (wpE (defs₀ (F := F)) 𝒱₀ (V d (cI i) (tI i)) none) Set.univ
          (cc0_k i xV (Memref.isWhole_whole _) eV (Memref.isWhole_whole _) oV (Memref.isWhole_whole _) arg5 harg5 arg6 harg6 arg7 harg7 arg8 harg8
            arg9 arg10 arg11 arg12 arg13 arg14)
          (fun _ => iprop(owesW d (cI i) (tI i) O W ∗ (xLoc d ↦{q₁} X) ∗ (xLoc d ↦{q₂} X) ∗ (eLoc d ↦{p₁} E) ∗ (eLoc d ↦{p₂} E)
            ∗ holdsAny d (cI i) (tI i) arg5 ∗ holdsAny d (cI i) (tI i) arg6 ∗ holdsAny d (cI i) (tI i) arg7 ∗ holdsAny d (cI i) (tI i) arg8
            ∗ semVal (V d (cI i) (tI i), SemLoc.dma arg9.sem) 0 ∗ semVal (V d (cI i) (tI i), SemLoc.dma arg10.sem) 0
            ∗ semVal (V d (cI i) (tI i), SemLoc.dma arg11.sem) 0 ∗ semVal (V d (cI i) (tI i), SemLoc.dma arg12.sem) 0
            ∗ semVal (V d (cI i) (tI i), SemLoc.dma arg13.sem) 0 ∗ semVal (V d (cI i) (tI i), SemLoc.dma arg14.sem) 0
            ∗ (oLoc d ↦[rowsSet (base i) (base i + 102400)]{fullShare} G))) := by
  have hB := base_le i
  simp only [cc0_k_eq_skeleton]
  unfold cc0_k_skel
  simp only [Prog.lift, Prog.bind_op, Prog.bind_ret, Prog.pure_eq_ret, Prog.bind_assoc]
  iintro ⟨HO, Hx1, Hx2, He1, He2, Hl1, Hl2, Hr1, Hr2, Hz9, Hz10, Hz11, Hz12, Hz13, Hz14, Ht, #Hmw⟩
  -- the first two chunks' indices are fetched
  iapply (wp_xFetch d (cI i) (tI i) X arg5 arg9.sem q₁ (base i + 4096 * 0) (rbnd₁ i 0 (by omega)) (k0_off1_eq i 0) _ hb5) $$ [Hx1 Hl1 Hz9]
  · isplitl [Hx1]; · iexact Hx1
    isplitl [Hl1]; · iexact Hl1
    iexact Hz9
  iintro Hx1
  iapply (wp_xFetch d (cI i) (tI i) X arg6 arg10.sem q₂ (base i + 4096 * 0 + 2048) (rbnd₂ i 0 (by omega)) (k0_off1_eq i 1) _ hb6) $$ [Hx2 Hl2 Hz10]
  · isplitl [Hx2]; · iexact Hx2
    isplitl [Hl2]; · iexact Hl2
    iexact Hz10
  iintro Hx2
  -- the loop
  have htr : Scf.trips k0_t1_loop.lb k0_t1_loop.ub k0_t1_loop.st = 25 := trips_eq
  sl_for (fun j acc => iprop(IL d i X E G f₀ arg5 arg6 arg7 arg8 arg9 arg10 arg11 arg12 arg13 arg14 q₁ q₂ p₁ p₂ O W j acc
      ∗ Transfers.MayWaits (V d (cI i) (tI i)) (default : HIx 1) O)) $$ [HO Hx1 Hx2 He1 He2 Hr1 Hr2 Hz11 Hz12 Hz13 Hz14 Ht]
  · intro k acc
    sl_respell [k0_t1_body]
    iintro ⟨H, #Hmw⟩
    iapply (wp_trip d i X E G f₀ arg5 arg6 arg7 arg8 arg9 arg10 arg11 arg12 arg13 arg14 q₁ q₂ p₁ p₂ O W harg5 harg6 harg7 harg8 hb5 hb6 hb7 hb8 hX hG _ k acc)
    isplitl [H]; · iexact H
    iexact Hmw
  · isplitl
    swap; · iexact Hmw
    unfold IL
    rw [xSlot_of_lt d (cI i) (tI i) X arg5 arg9.sem q₁ 0 (base i + 4096 * 0) (rbnd₁ i 0) (by omega),
      xSlot_of_lt d (cI i) (tI i) X arg6 arg10.sem q₂ 0 (base i + 4096 * 0 + 2048) (rbnd₂ i 0) (by omega)]
    unfold oSlot
    rw [if_pos rfl, if_pos rfl]
    isplitl [HO]; · iexact HO
    isplitl [Hx1]; · iexact Hx1
    isplitl [Hx2]; · iexact Hx2
    isplitl [He1]; · iexact He1
    isplitl [He2]; · iexact He2
    isplitl [Hz11]; · iexact Hz11
    isplitl [Hz12]; · iexact Hz12
    isplitl [Hr1 Hz13]; · isplitl [Hr1]; · iexact Hr1
                          iexact Hz13
    isplitl [Hr2 Hz14]; · isplitl [Hr2]; · iexact Hr2
                          iexact Hz14
    ihave Ht' := (pts_rows_split (F := F) (d := d) (q := fullShare) (f := f₀) (a := base i) (b := base i) (c := base i + 102400) (by omega) (by omega)).1 $$ Ht
    icases Ht' with ⟨Hd, Ht⟩
    isplitl [Hd]
    · iapply (BiEntails.of_eq (pointsTo_congr (ℓ := oLoc d) (q := fullShare) (I := rowsSet (base i) (base i)) (g := G) ?_)).1 $$ Hd
      intro j hj
      rw [rowsSet_self] at hj
      exact absurd hj (Finset.notMem_empty _)
    · iexact Ht
  iintro %acc H
  rw [htr]
  icases H with ⟨H, -⟩
  unfold IL
  rw [oSlot_succ d (cI i) (tI i) G arg7 arg13.sem 24, oSlot_succ d (cI i) (tI i) G arg8 arg14.sem 24]
  unfold xSlot
  rw [dif_neg (by omega), dif_neg (by omega)]
  icases H with ⟨HO, ⟨Hx1, Hl1, Hz9⟩, ⟨Hx2, Hl2, Hz10⟩, He1, He2, Hz11, Hz12, Ho1, Ho2, Hd, Ht⟩
  simp only [Prog.bind, Prog.pure_eq_ret, Prog.bind_ret]
  -- the last two write-outs land
  iapply (wp_oWait d (cI i) (tI i) G arg7 arg13.sem (base i + 4096 * (25 - 1))) $$ [Ho1 HO]
  · isplitl [Ho1]; · iexact Ho1
    isplitl [HO]; · iexact HO
    iexact Hmw
  iintro ⟨Ho1, Hr1, Hz13, HO⟩
  iapply (wp_oWait d (cI i) (tI i) G arg8 arg14.sem (base i + 4096 * (25 - 1) + 2048)) $$ [Ho2 HO]
  · isplitl [Ho2]; · iexact Ho2
    isplitl [HO]; · iexact HO
    iexact Hmw
  iintro ⟨Ho2, Hr2, Hz14, HO⟩
  rw [wp_ret]
  imodintro
  isplitl [HO]; · iexact HO
  isplitl [Hx1]; · iexact Hx1
  isplitl [Hx2]; · iexact Hx2
  isplitl [He1]; · iexact He1
  isplitl [He2]; · iexact He2
  isplitl [Hl1]; · iexact Hl1
  isplitl [Hl2]; · iexact Hl2
  isplitl [Hr1]; · iexact Hr1
  isplitl [Hr2]; · iexact Hr2
  isplitl [Hz9]; · iexact Hz9
  isplitl [Hz10]; · iexact Hz10
  isplitl [Hz11]; · iexact Hz11
  isplitl [Hz12]; · iexact Hz12
  isplitl [Hz13]; · iexact Hz13
  isplitl [Hz14]; · iexact Hz14
  rw [show base i + 102400 = base i + 4096 * (25 - 1) + 2048 + 2048 by omega]
  iapply (pts_rows_split (F := F) (d := d) (q := fullShare) (f := G) (a := base i) (b := base i + 4096 * (25 - 1) + 2048) (by omega) (by omega)).2
  isplitl [Hd Ho1]
  · iapply (pts_rows_split (F := F) (d := d) (q := fullShare) (f := G) (a := base i) (b := base i + 4096 * (25 - 1)) (by omega) (by omega)).2
    isplitl [Hd]; · iexact Hd
    iexact Ho1
  · iexact Ho2
end

end Cert.Proof.Gather

end
-- ==== Proof.Launch.lean ====
/- The launch: what each SparseCore call's handshakes carry, and each tile's obligation from its body. -/
module

public import proofs.«01_k».proof.Proof.Tile

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole Cert.KernelIdeal.main_v0_scv : Memref Cert.KernelIdeal.sig Kind.scVector Space.hbm Cert.KernelIdeal.S3276800 EltTy.i32)
local notation "eV" => (Memref.whole Cert.KernelIdeal.main_arg1_scv : Memref Cert.KernelIdeal.sig Kind.scVector Space.hbm Cert.KernelIdeal.S200x16 EltTy.f32)
local notation "oV" => (Memref.whole Cert.KernelIdeal.main_v1_scv : Memref Cert.KernelIdeal.sig Kind.scVector Space.hbm Cert.KernelIdeal.S3276800x16 EltTy.f32)

abbrev 𝒱 : Variants := 𝒱₀.lift
abbrev v₀ : 𝒱.V := Sum.inl none

variable (X : (d : Dev nD) → Buf (Elt F) (xLoc d)) (E : (d : Dev nD) → Buf (Elt F) (eLoc d)) (f₀ G : (d : Dev nD) → Buf (Elt F) (oLoc d))

/-! ## What the handshakes carry -/

/-- What the tile numbered `k` is handed: a share of the index array and of the table, and its 102400 rows of the
    gathered array. -/
def tp (d : Dev nD) (k : ℕ) (f : Buf (Elt F) (oLoc d)) : sProp 𝕄 :=
  iprop((xLoc d ↦{Transfers.shareTokN fullShare k} X d) ∗ (eLoc d ↦{Transfers.shareTokN fullShare k} E d)
    ∗ (oLoc d ↦[rowsSet (102400 * k) (102400 * k + 102400)]{fullShare} f))

instance tp_storable (d : Dev nD) (k : ℕ) (f : Buf (Elt F) (oLoc d)) : BI.Storable (upEmb : UEmb _ 𝕄) (tp X E d k f) := by
  unfold tp; infer_instance

variable [FloatOps F]

/-- The call's payloads: subcore `i` of SparseCore `c` is the tile numbered `2 * i + c`. -/
def P : (K (F := F)).Pay (nD := nD) (Val := Elt F) (Name := ℕ) (U := UU) where
  st := fun _ d c => bigSep Finset.univ fun i : Fin 16 => tp X E d (2 * i.val + c.val) (f₀ d)
  dn := fun _ d c => bigSep Finset.univ fun i : Fin 16 => tp X E d (2 * i.val + c.val) (G d)
  go := fun _ d c i => tp X E d (2 * i.val + c.val) (f₀ d)
  td := fun _ d c i => tp X E d (2 * i.val + c.val) (G d)
  x := fun _ _ => iprop(emp)

instance P_storable : (P (F := F) X E f₀ G).IsStorable where
  st _ d c := (inferInstance : BI.Storable (upEmb : UEmb _ 𝕄) (bigSep Finset.univ fun i : Fin 16 => tp X E d (2 * i.val + c.val) (f₀ d)))
  dn _ d c := (inferInstance : BI.Storable (upEmb : UEmb _ 𝕄) (bigSep Finset.univ fun i : Fin 16 => tp X E d (2 * i.val + c.val) (G d)))
  go _ d c i := (inferInstance : BI.Storable (upEmb : UEmb _ 𝕄) (tp X E d (2 * i.val + c.val) (f₀ d)))
  td _ d c i := (inferInstance : BI.Storable (upEmb : UEmb _ 𝕄) (tp X E d (2 * i.val + c.val) (G d)))

/-! ## A tile's own storage -/

section Tile

variable (d : Dev nD) (i : grid0.Coords)

/-- The DMA semaphore `s` of tile `i`. -/
abbrev scell (s : DmaSems sig S_) : GSem nD τ sig := (V d (cI i) (tI i), .dma s.sem)

omit [FloatOps F] in
theorem scell_mem (s : DmaSems sig S_) (h : (SemLoc.dma s.sem : SemLoc sig).isScoped .scVector = true) :
    scell d i s ∈ ownCells (V d (cI i) (tI i)) := (mem_ownCells (g := scell d i s)).mpr ⟨rfl, h⟩

omit [FloatOps F] in
theorem scell_ne {s s' : DmaSems sig S_} (h : s.sem ≠ s'.sem) : scell d i s ≠ scell d i s' := fun e =>
  h (SemLoc.dma.inj (Prod.mk.inj e).2)

omit [FloatOps F] in
/-- The six DMA semaphores of the kernel are among the tile's own. -/
theorem ownSems0_split :
    (ownSems0 (V d (cI i) (tI i)) : sProp 𝕄)
      = iprop(semVal (scell d i cc0_scratch4) 0 ∗ semVal (scell d i cc0_scratch5) 0 ∗ semVal (scell d i cc0_scratch6) 0
          ∗ semVal (scell d i cc0_scratch7) 0 ∗ semVal (scell d i cc0_scratch8) 0 ∗ semVal (scell d i cc0_scratch9) 0
          ∗ bigSep (((((((ownCells (V d (cI i) (tI i))).erase (scell d i cc0_scratch4)).erase (scell d i cc0_scratch5)).erase (scell d i cc0_scratch6)).erase
              (scell d i cc0_scratch7)).erase (scell d i cc0_scratch8)).erase (scell d i cc0_scratch9)) fun g => semVal g 0) := by
  unfold SparseCore.Cfg.ownSems0
  rw [SparseCore.bigSep_erase' (scell_mem d i cc0_scratch4 (by decide)),
    SparseCore.bigSep_erase' (Finset.mem_erase.mpr ⟨scell_ne d i (by decide), scell_mem d i cc0_scratch5 (by decide)⟩),
    SparseCore.bigSep_erase' (Finset.mem_erase.mpr ⟨scell_ne d i (by decide), Finset.mem_erase.mpr ⟨scell_ne d i (by decide), scell_mem d i cc0_scratch6 (by decide)⟩⟩),
    SparseCore.bigSep_erase' (Finset.mem_erase.mpr ⟨scell_ne d i (by decide), Finset.mem_erase.mpr ⟨scell_ne d i (by decide), Finset.mem_erase.mpr ⟨scell_ne d i (by decide),
      scell_mem d i cc0_scratch7 (by decide)⟩⟩⟩),
    SparseCore.bigSep_erase' (Finset.mem_erase.mpr ⟨scell_ne d i (by decide), Finset.mem_erase.mpr ⟨scell_ne d i (by decide), Finset.mem_erase.mpr ⟨scell_ne d i (by decide),
      Finset.mem_erase.mpr ⟨scell_ne d i (by decide), scell_mem d i cc0_scratch8 (by decide)⟩⟩⟩⟩),
    SparseCore.bigSep_erase' (Finset.mem_erase.mpr ⟨scell_ne d i (by decide), Finset.mem_erase.mpr ⟨scell_ne d i (by decide), Finset.mem_erase.mpr ⟨scell_ne d i (by decide),
      Finset.mem_erase.mpr ⟨scell_ne d i (by decide), Finset.mem_erase.mpr ⟨scell_ne d i (by decide), scell_mem d i cc0_scratch9 (by decide)⟩⟩⟩⟩⟩)]

/-- A buffer of tile `i` among the device's. -/
abbrev bref (b : Ref sig .scVector) : DevRef τ sig := (Proc.scVector (cI i) (tI i)).devRef b

omit [FloatOps F] in
theorem bref_ne {b b' : Ref sig .scVector} (h : b ≠ b') : bref i b ≠ bref i b' := fun e => h (Proc.devRef_injective _ e)

omit [FloatOps F] in
/-- The two index buffers and the two row buffers are among the tile's own. -/
theorem ownBufs_split :
    (ownBufs (V d (cI i) (tI i)) : sProp 𝕄)
      = iprop((∃ f, (V d (cI i) (tI i)).loc cc0_scratch0 ↦{fullShare} f) ∗ (∃ f, (V d (cI i) (tI i)).loc cc0_scratch1 ↦{fullShare} f)
          ∗ (∃ f, (V d (cI i) (tI i)).loc cc0_scratch2 ↦{fullShare} f) ∗ (∃ f, (V d (cI i) (tI i)).loc cc0_scratch3 ↦{fullShare} f)
          ∗ bigSep (((((ownRefs (τ := τ) (.scVector (cI i) (tI i))).erase (bref i cc0_scratch0)).erase (bref i cc0_scratch1)).erase (bref i cc0_scratch2)).erase
              (bref i cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cI i) (tI i)) (b := bref i cc0_scratch0) rfl)).trans ?_
  rw [SparseCore.bigSep_erase' (Finset.mem_erase.mpr ⟨bref_ne i (by decide),
      SparseCore.Cfg.mem_ownRefs_of_owner (p := Proc.scVector (cI i) (tI i)) (b := bref i cc0_scratch1) rfl⟩),
    SparseCore.bigSep_erase' (Finset.mem_erase.mpr ⟨bref_ne i (by decide), Finset.mem_erase.mpr ⟨bref_ne i (by decide),
      SparseCore.Cfg.mem_ownRefs_of_owner (p := Proc.scVector (cI i) (tI i)) (b := bref i cc0_scratch2) rfl⟩⟩),
    SparseCore.bigSep_erase' (Finset.mem_erase.mpr ⟨bref_ne i (by decide), Finset.mem_erase.mpr ⟨bref_ne i (by decide), Finset.mem_erase.mpr ⟨bref_ne i (by decide),
      SparseCore.Cfg.mem_ownRefs_of_owner (p := Proc.scVector (cI i) (tI i)) (b := bref i cc0_scratch3) rfl⟩⟩⟩)]

omit [FloatOps F] in
/-- A whole buffer with any contents, as the body's lemmas hold it. -/
theorem holdsAny_eq {sh : Shape} {e : EltTy} (M : Memref sig .scVector .vmem sh e) (hM : M.IsWhole) :
    (holdsAny d (cI i) (tI i) M : sProp 𝕄)
      = iprop(∃ f : Buf (Elt F) (M.view.loc (V d (cI i) (tI i))), M.view.loc (V d (cI i) (tI i)) ↦{fullShare} f) := by
  unfold holdsAny
  rw [hM.set_eq_univ]

/-- What a tile is handed, its shares cut in two for the two index windows and the two gathers. -/
theorem tile_body (hF : (K (F := F)).Facts) (hX : ∀ r, (X d r).toNat < 200) (hG : G d = gath d (X d) hX (E d))
    (O : CellTallies nD τ sig (HIx 1)) (W : Waits sig (HIx 1)) (hO : ∀ g, O g none = 0) :
    iprop(levAts (K (F := F)).L (K (F := F)).lev ∗ emp ∗ tp X E d (2 * (i 1).val + (i 0).val) (f₀ d)
        ∗ scopedBufs (V d (cI i) (tI i)) ∗ scopedSems0 (V d (cI i) (tI i)) ∗ owes (V d (cI i) (tI i)) O W)
      ⊢ wp frame (wpE (defs₀ (F := F)) 𝒱₀ (V d (cI i) (tI i)) none) Set.univ
          (cc0_k i xV (Memref.isWhole_whole _) eV (Memref.isWhole_whole _) oV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9)
          fun _ => iprop(tp X E d (2 * (i 1).val + (i 0).val) (G d)
            ∗ scopedBufs (V d (cI i) (tI i)) ∗ scopedSems0 (V d (cI i) (tI i))
            ∗ ∃ W', ⌜∀ p ∈ W', p ∈ W ∨ p.2 = none⌝ ∗ owes (V d (cI i) (tI i)) O W') := by
  have hbase : base i = 102400 * (2 * (i 1).val + (i 0).val) := by unfold base; omega
  have hxs : ∀ q, (xLoc d ↦{q} X d : sProp 𝕄) = iprop((xLoc d ↦{q.left} X d) ∗ (xLoc d ↦{q.right} X d)) := fun q =>
    BI.equiv_iff.mp ⟨(pointsTo_share (PosShare.mem_left_op_right q)).1, (pointsTo_share (PosShare.mem_left_op_right q)).2⟩
  have hes : ∀ q, (eLoc d ↦{q} E d : sProp 𝕄) = iprop((eLoc d ↦{q.left} E d) ∗ (eLoc d ↦{q.right} E d)) := fun q =>
    BI.equiv_iff.mp ⟨(pointsTo_share (PosShare.mem_left_op_right q)).1, (pointsTo_share (PosShare.mem_left_op_right q)).2⟩
  rw [(K (F := F)).scopedBufs_V hF d (cI i) (tI i), SparseCore.Cfg.scopedSems0_V (Val := Elt F) d (cI i) (tI i), ownSems0_split, ownBufs_split]
  unfold tp
  rw [hxs, hes]
  rw [← hbase]
  iintro ⟨#Hlv, -, ⟨⟨Hx1, Hx2⟩, ⟨He1, He2⟩, Ho⟩, ⟨⟨%b1, H5⟩, ⟨%b2, H6⟩, ⟨%b3, H7⟩, ⟨%b4, H8⟩, Hbufs⟩, ⟨Hs4, Hs5, Hs6, Hs7, Hs8, Hs9, Hsems⟩, HO⟩
  ihave Hmw := (show levAts (K (F := F)).L (K (F := F)).lev ⊢ Transfers.MayWaits (V d (cI i) (tI i)) (default : HIx 1) O from
    (K (F := F)).mayWaits_none (thr := V d (cI i) (tI i)) hO) $$ Hlv
  have h := wp_tile d i (X d) (E d) (G d) (f₀ d) (Memref.whole cc0_scratch0) (Memref.whole cc0_scratch1) (Memref.whole cc0_scratch2) (Memref.whole cc0_scratch3)
    cc0_scratch4 cc0_scratch5 cc0_scratch6 cc0_scratch7 cc0_scratch8 cc0_scratch9 (Transfers.shareTokN fullShare (2 * (i 1).val + (i 0).val)).left
    (Transfers.shareTokN fullShare (2 * (i 1).val + (i 0).val)).right (Transfers.shareTokN fullShare (2 * (i 1).val + (i 0).val)).left
    (Transfers.shareTokN fullShare (2 * (i 1).val + (i 0).val)).right O W (Memref.isWhole_whole _) (Memref.isWhole_whole _) (Memref.isWhole_whole _)
    (Memref.isWhole_whole _) (by decide) (by decide) (by decide) (by decide) hX hG
  rw [holdsAny_eq d i (Memref.whole cc0_scratch0) (Memref.isWhole_whole _), holdsAny_eq d i (Memref.whole cc0_scratch1) (Memref.isWhole_whole _),
    holdsAny_eq d i (Memref.whole cc0_scratch2) (Memref.isWhole_whole _), holdsAny_eq d i (Memref.whole cc0_scratch3) (Memref.isWhole_whole _)] at h
  iapply (wp_wand_r frame _ _)
  isplitl [Hx1 Hx2 He1 He2 Ho H5 H6 H7 H8 Hs4 Hs5 Hs6 Hs7 Hs8 Hs9 HO Hmw]
  · iapply h
    isplitl [HO]
    · iapply (owesW_self d (cI i) (tI i)); iexact HO
    isplitl [Hx1]; · iexact Hx1
    isplitl [Hx2]; · iexact Hx2
    isplitl [He1]; · iexact He1
    isplitl [He2]; · iexact He2
    isplitl [H5]; · iexists b1; iexact H5
    isplitl [H6]; · iexists b2; iexact H6
    isplitl [H7]; · iexists b3; iexact H7
    isplitl [H8]; · iexists b4; iexact H8
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Ho]; · iexact Ho
    iexact Hmw
  iintro %_ ⟨HO, Hx1, Hx2, He1, He2, H5, H6, H7, H8, Hs4, Hs5, Hs6, Hs7, Hs8, Hs9, Ho⟩
  isplitl [Hx1 Hx2 He1 He2 Ho]
  · isplitl [Hx1 Hx2]
    · isplitl [Hx1]; · iexact Hx1
      iexact Hx2
    isplitl [He1 He2]
    · isplitl [He1]; · iexact He1
      iexact He2
    iexact Ho
  isplitl [H5 H6 H7 H8 Hbufs]
  · isplitl [H5]; · iexact H5
    isplitl [H6]; · iexact H6
    isplitl [H7]; · iexact H7
    isplitl [H8]; · iexact H8
    iexact Hbufs
  isplitl [Hs4 Hs5 Hs6 Hs7 Hs8 Hs9 Hsems]
  · isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact Hsems
  iapply (owesW_elim d (cI i) (tI i)); iexact HO

end Tile

/-! ## The obligations of the call -/

section Obl

/-- The grid point of SparseCore `c`'s subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          xV (Memref.isWhole_whole _) eV (Memref.isWhole_whole _) oV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9) ⟨⟩ c s := rfl

omit [FloatOps F] in
/-- A wait at no call is one of those the handshake allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each tile does its part of the call. -/
theorem tileObl (hF : (K (F := F)).Facts) (hX : ∀ d r, (X d r).toNat < 200) (hG : ∀ d, G d = gath d (X d) (hX d) (E d)) :
    (K (F := F)).TileObl (D (F := F)) 𝒱 (P X E f₀ G) v₀ 0 := by
  intro d c i O W hO _ _
  simp only [show (P X E f₀ G).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body X E f₀ G d (coordsV ⟨_, hci.1⟩ ⟨_, hci.2⟩) hF (hX d) (hG d) O W hO).trans (wp_mono frame _ _ fun _ => obl_post)

/-- A SparseCore hands its tiles exactly what it was handed. -/
theorem vecSplit : (K (F := F)).VecSplit' (P X E f₀ G) 0 := by
  intro d c
  show (bigSep Finset.univ fun i : Fin 16 => tp X E d (2 * i.val + c.val) (f₀ d)) ⊢ |={Set.univ}=> iprop(
      (bigSep Finset.univ fun i : Fin ((K (F := F)).nSub 0) => tp X E d (2 * i.val + c.val) (f₀ d))
      ∗ ((bigSep Finset.univ fun i : Fin ((K (F := F)).nSub 0) => tp X E d (2 * i.val + c.val) (G d))
          -∗ bigSep Finset.univ fun i : Fin 16 => tp X E d (2 * i.val + c.val) (G d)))
  iintro H; imodintro
  isplitl [H]; · iexact H
  iintro H; iexact H

end Obl

end Cert.Proof.Gather

end
-- ==== Proof.Deal.lean ====
/- The arrays of the SparseCore call dealt to the tiles that work on them. -/
module

public import proofs.«01_k».proof.Proof.Launch
public import Idealize.ShloMosaic.Lib.Ring

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## One device's arrays dealt to the thirty-two tiles, and collected from them -/

theorem comm_eq (A B : sProp 𝕄) : iprop(A ∗ B) = iprop(B ∗ A) := by
  have h (A B : sProp 𝕄) : iprop(A ∗ B) ⊢ iprop(B ∗ A) := by iintro ⟨HA, HB⟩; isplitl [HB] <;> iassumption
  exact BI.equiv_iff.mp ⟨h A B, h B A⟩

theorem regroup (A A' B B' C : sProp 𝕄) : iprop((A ∗ A') ∗ (B ∗ B') ∗ C) = iprop((A ∗ B) ∗ A' ∗ B' ∗ C) := by
  have h₁ : iprop((A ∗ A') ∗ (B ∗ B') ∗ C) ⊢ iprop((A ∗ B) ∗ A' ∗ B' ∗ C) := by
    iintro ⟨⟨HA, HA'⟩, ⟨HB, HB'⟩, HC⟩
    isplitl [HA HB]; · isplitl [HA] <;> iassumption
    isplitl [HA']; · iexact HA'
    isplitl [HB'] <;> iassumption
  have h₂ : iprop((A ∗ B) ∗ A' ∗ B' ∗ C) ⊢ iprop((A ∗ A') ∗ (B ∗ B') ∗ C) := by
    iintro ⟨⟨HA, HB⟩, HA', HB', HC⟩
    isplitl [HA HA']; · isplitl [HA] <;> iassumption
    isplitl [HB HB']; · isplitl [HB] <;> iassumption
    iexact HC
  exact BI.equiv_iff.mp ⟨h₁, h₂⟩

/-- The first `n` tiles' rows are the rows below `102400 n`. -/
theorem rows_range {d : Dev nD} (f : Buf (Elt F) (oLoc d)) (n : ℕ) :
    (oLoc d ↦[rowsSet 0 (102400 * n)]{fullShare} f : sProp 𝕄)
      = bigSep (Finset.range n) fun k => oLoc d ↦[rowsSet (102400 * k) (102400 * k + 102400)]{fullShare} f := by
  induction n with
  | zero => rw [Finset.range_zero, bigSep_empty, rowsSet_self]; exact pointsTo_empty
  | succ n ih =>
    have h := pts_rows_split (F := F) (d := d) (q := fullShare) (f := f) (a := 0) (b := 102400 * n) (c := 102400 * n + 102400) (Nat.zero_le _) (Nat.le_add_right _ _)
    rw [show 102400 * (n + 1) = 102400 * n + 102400 from rfl, BI.equiv_iff.mp ⟨h.1, h.2⟩, ih, Finset.range_add_one,
      SparseCore.bigSep_insert' (Finset.notMem_range_self)]
    exact comm_eq _ _

/-- A family over the tiles' numbers is one over the SparseCores and their subcores, tile `2 s + c` being subcore `s` of `c`. -/
theorem tiles_range (Ψ : ℕ → sProp 𝕄) :
    bigSep (Finset.range 32) Ψ
      = bigSep Finset.univ fun c : Fin 2 => bigSep Finset.univ fun i : Fin 16 => Ψ (2 * i.val + c.val) := by
  rw [Ring.bigSep_fin2, show (32 : ℕ) = 2 * 16 from rfl, Ring.bigSep_range_deinterleave,
    Ring.bigSep_fin_eq_range 16 (fun i : Fin 16 => Ψ (2 * i.val + (0 : Fin 2).val)) (fun k => Ψ (2 * k)) (fun _ _ => rfl),
    Ring.bigSep_fin_eq_range 16 (fun i : Fin 16 => Ψ (2 * i.val + (1 : Fin 2).val)) (fun k => Ψ (2 * k + 1)) (fun _ _ => rfl)]

variable (X : (d : Dev nD) → Buf (Elt F) (xLoc d)) (E : (d : Dev nD) → Buf (Elt F) (eLoc d))

/-- What stays with the TensorCore while the tiles read: the rest of the indices' and the table's shares. -/
def kept (d : Dev nD) : sProp 𝕄 :=
  iprop((xLoc d ↦{Transfers.shareDrop fullShare 32} X d) ∗ (eLoc d ↦{Transfers.shareDrop fullShare 32} E d))

/-- The three arrays whole are what stays and the thirty-two tiles' parts. -/
theorem deal (d : Dev nD) (f : Buf (Elt F) (oLoc d)) :
    (iprop((xLoc d ↦{fullShare} X d) ∗ (eLoc d ↦{fullShare} E d) ∗ (oLoc d ↦{fullShare} f)) : sProp 𝕄)
      = iprop(kept X E d ∗ bigSep Finset.univ fun c : Fin 2 => bigSep Finset.univ fun i : Fin 16 => tp X E d (2 * i.val + c.val) f) := by
  rw [← tiles_range (fun k => tp X E d k f)]
  unfold tp kept
  rw [bigSep_sep', bigSep_sep', ← rows_range, show (102400 * 32 : ℕ) = 3276800 from rfl, rowsSet_all]
  have hx := Transfers.pointsTo_toks_range (nD := nD) (τ := τ) (sig := sig) (Ix := HIx 1) (Val := Elt F) (Name := ℕ) (U := UU) (Lvl := ℕ)
    (ℓ := xLoc d) (S := Finset.univ) (f := X d) fullShare 32
  have he := Transfers.pointsTo_toks_range (nD := nD) (τ := τ) (sig := sig) (Ix := HIx 1) (Val := Elt F) (Name := ℕ) (U := UU) (Lvl := ℕ)
    (ℓ := eLoc d) (S := Finset.univ) (f := E d) fullShare 32
  rw [BI.equiv_iff.mp ⟨hx.1, hx.2⟩, BI.equiv_iff.mp ⟨he.1, he.2⟩]
  exact regroup _ _ _ _ _

end Cert.Proof.Gather

end
-- ==== Proof.Block.lean ====
/- The TensorCore call: one grid point's body, and the run of all of them as one step of @main. -/
module

public import proofs.«01_k».proof.Proof.Launch
public import proofs.«01_k».proof.Proof.Gen.KernelIdeal.Launch
public import proofs.«01_k».proof.Proof.Gen.KernelIdeal.Points
public import Idealize.ShloMosaic.Lib.Pipeline.Regions
public import Idealize.ShloMosaic.Lib.Pipeline.FrameTail
public import Idealize.ShloMosaic.Lib.Pipeline.FrameBody
public import Idealize.ShloMosaic.Lib.Pipeline.Value
public import Idealize.ShloMosaic.Lib.VecWindow

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Idealize.ShloMosaic.TcCoe
open Idealize.ShloMosaic.Pipeline (Dat Cfg Window BodyObligation BodyObligationLoose)

local notation "𝕄" => MT nD τ sig (HIx 1) (Elt F) ℕ UU ℕ

variable [FloatOps F]

/-! ## The body at one grid point -/

/-- A load of a whole memref reads it. -/
theorem readAt_all {sp : Space} {sh : Shape} {e : EltTy} (v : View sig .tc sp sh e) (f : v.ty.Contents (Elt F)) {off : Fin sh.rank → ℕ}
    (inb : ∀ a, off a + sh.size a ≤ sh.size a) : v.readAt (Elt F) (Rect.unit off sh.size inb).toLoadRect f = v.read (Elt F) f := by
  have h0 : off = fun _ => 0 := funext fun a => by have := inb a; omega
  exact View.ld_unit_zero h0 inb (v.read (Elt F) f)

/-- From the eight blocks the body leaves the seven inputs as they were and the result at its payload. -/
theorem mlp_body (c : Dev nD) (i : grid1.Coords)
    (M0 : Memref sig .tc .vmem S512x3200 .f32) (h0 : M0.IsWhole) (M1 : Memref sig .tc .vmem S3200x128 .f32) (h1 : M1.IsWhole)
    (M2 : Memref sig .tc .vmem S1x128 .f32) (h2 : M2.IsWhole) (M3 : Memref sig .tc .vmem S128x64 .f32) (h3 : M3.IsWhole)
    (M4 : Memref sig .tc .vmem S1x64 .f32) (h4 : M4.IsWhole) (M5 : Memref sig .tc .vmem S64x2 .f32) (h5 : M5.IsWhole)
    (M6 : Memref sig .tc .vmem S1x2 .f32) (h6 : M6.IsWhole) (M7 : Memref sig .tc .vmem S512x2 .f32) (h7 : M7.IsWhole)
    (X0 : Vec F S512x3200 .f32) (X1 : Vec F S3200x128 .f32) (X2 : Vec F S1x128 .f32) (X3 : Vec F S128x64 .f32) (X4 : Vec F S1x64 .f32)
    (X5 : Vec F S64x2 .f32) (X6 : Vec F S1x2 .f32) (X7 : Vec F S512x2 .f32) (Q : PUnit → sProp 𝕄) :
    iprop(owns (c : Thread nD τ) M0 fullShare X0 ∗ owns (c : Thread nD τ) M1 fullShare X1 ∗ owns (c : Thread nD τ) M2 fullShare X2
        ∗ owns (c : Thread nD τ) M3 fullShare X3 ∗ owns (c : Thread nD τ) M4 fullShare X4 ∗ owns (c : Thread nD τ) M5 fullShare X5
        ∗ owns (c : Thread nD τ) M6 fullShare X6 ∗ owns (c : Thread nD τ) M7 fullShare X7
        ∗ (iprop(owns (c : Thread nD τ) M0 fullShare X0 ∗ owns (c : Thread nD τ) M1 fullShare X1 ∗ owns (c : Thread nD τ) M2 fullShare X2
        ∗ owns (c : Thread nD τ) M3 fullShare X3 ∗ owns (c : Thread nD τ) M4 fullShare X4 ∗ owns (c : Thread nD τ) M5 fullShare X5
        ∗ owns (c : Thread nD τ) M6 fullShare X6 ∗ owns (c : Thread nD τ) M7 fullShare (k1_pay1 X0 X1 X2 X3 X4 X5 X6)) -∗ Q ⟨⟩))
      ⊢ wp frame (wpE (defs₀ (F := F)) 𝒱₀ (c : Thread nD τ) none) Set.univ
          (cc1__mlp_body i M0 h0 M1 h1 M2 h2 M3 h3 M4 h4 M5 h5 M6 h6 M7 h7) Q := by
  rw [cc1__mlp_body_eq_skeleton]
  unfold cc1__mlp_body_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, Hk⟩
  sl_exec!
  sl_step
  iapply Hk
  isplitl [H0]
  · iexists f0; isplitr; (· ipureintro; exact e0)
    iexact H0
  isplitl [H1]
  · iexists f1; isplitr; (· ipureintro; exact e1)
    iexact H1
  isplitl [H2]
  · iexists f2; isplitr; (· ipureintro; exact e2)
    iexact H2
  isplitl [H3]
  · iexists f3; isplitr; (· ipureintro; exact e3)
    iexact H3
  isplitl [H4]
  · iexists f4; isplitr; (· ipureintro; exact e4)
    iexact H4
  isplitl [H5]
  · iexists f5; isplitr; (· ipureintro; exact e5)
    iexact H5
  isplitl [H6]
  · iexists f6; isplitr; (· ipureintro; exact e6)
    iexact H6
  iexists _; isplitr; swap
  · iexact H7
  ipureintro
  unfold mlp_body.sl.H7_1
  rw [readAt_all M0.view f0 inb_S512x3200_S512x3200_0_0, readAt_all M1.view f1 inb_S3200x128_S3200x128_0_0, readAt_all M2.view f2 inb_S1x128_S1x128_0_0,
    readAt_all M3.view f3 inb_S128x64_S128x64_0_0, readAt_all M4.view f4 inb_S1x64_S1x64_0_0, readAt_all M5.view f5 inb_S64x2_S64x2_0_0,
    readAt_all M6.view f6 inb_S1x2_S1x2_0_0, e0, e1, e2, e3, e4, e5, e6]
  exact View.read_writes_full M7.view _ inb_S512x2_S512x2_0_0 _ _

/-! ## The proof data of the call, entered at a valuation -/

variable (V : (c : Dev nD) → (b : Ref sig .tc) → Buf (Elt F) ((c : Thread nD τ).loc b))

/-- What the fetch at point `t` brings of window `w`'s array. -/
abbrev blkIn (c : Dev nD) (w : Fin 8) (t : Fin cfg1.N) : ((cfg1.win w).xblock (cfg1.grid.coords t)).Idx → Elt F (cfg1.win w).elt :=
  ((cfg1.win w).blk t).view.read (Elt F) (V c (Pipeline.arrRef spec1 w))

/-- What the body leaves in the result's staging buffer at point `t`. -/
abbrev blkOut (c : Dev nD) (t : Fin cfg1.N) : Vec F S512x2 .f32 :=
  k1_pay1 (blkIn V c 0 t) (blkIn V c 1 t) (blkIn V c 2 t) (blkIn V c 3 t) (blkIn V c 4 t) (blkIn V c 5 t) (blkIn V c 6 t)

/-- The proof data: the arrays at `V`, each input's staging buffer at its block, the result's at the body's payload. -/
def dat (c : Dev nD) : Dat τ (Elt F) (HIx 1) ℕ UU ℕ cfg1 c where
  A w := V c (Pipeline.arrRef spec1 w)
  after w t := match w with
    | ⟨0, _⟩ => blkIn V c 0 t
    | ⟨1, _⟩ => blkIn V c 1 t
    | ⟨2, _⟩ => blkIn V c 2 t
    | ⟨3, _⟩ => blkIn V c 3 t
    | ⟨4, _⟩ => blkIn V c 4 t
    | ⟨5, _⟩ => blkIn V c 5 t
    | ⟨6, _⟩ => blkIn V c 6 t
    | ⟨7, _⟩ => blkOut V c t
  Φ _ := Pipeline.scopedRest (Ix := HIx 1) (Name := ℕ) (U := UU) (Lvl := ℕ) (Val := Elt F) spec1 c
  q _ := fullShare
  owed _ := 0
  recorded _ := {p | (K (F := F)).lev ((c : Thread nD τ), p.1) p.2 ≤ 8}

/-- No pipeline of this program has a table to be admissible for. -/
abbrev adm : (p : Fin 1) → (pcfgs (F := F) p).Adm := fun p => (cfgs p).toPCfg_adm

/-- The same over the program's pipelines, of which there is one. -/
def pdats : (p : Fin 1) → (c : Dev nD) → Dat τ (Elt F) (HIx 1) ℕ UU ℕ (Pipeline.pin (pcfgs (F := F)) adm p) c
  | ⟨0, _⟩ => fun c => dat V c

theorem before_0 (c : Dev nD) (t : Fin cfg1.N) (d) : (dat V c).before 0 t d = blkIn V c 0 t :=
  (dat V c).before_in_eq_fetched 0 rfl (fun _ => rfl) (fun _ _ _ => rfl) (fun _ => rfl) t d
theorem before_1 (c : Dev nD) (t : Fin cfg1.N) (d) : (dat V c).before 1 t d = blkIn V c 1 t :=
  (dat V c).before_in_eq_fetched 1 rfl (fun _ => rfl) (fun _ _ _ => rfl) (fun _ => rfl) t d
theorem before_2 (c : Dev nD) (t : Fin cfg1.N) (d) : (dat V c).before 2 t d = blkIn V c 2 t :=
  (dat V c).before_in_eq_fetched 2 rfl (fun _ => rfl) (fun _ _ _ => rfl) (fun _ => rfl) t d
theorem before_3 (c : Dev nD) (t : Fin cfg1.N) (d) : (dat V c).before 3 t d = blkIn V c 3 t :=
  (dat V c).before_in_eq_fetched 3 rfl (fun _ => rfl) (fun _ _ _ => rfl) (fun _ => rfl) t d
theorem before_4 (c : Dev nD) (t : Fin cfg1.N) (d) : (dat V c).before 4 t d = blkIn V c 4 t :=
  (dat V c).before_in_eq_fetched 4 rfl (fun _ => rfl) (fun _ _ _ => rfl) (fun _ => rfl) t d
theorem before_5 (c : Dev nD) (t : Fin cfg1.N) (d) : (dat V c).before 5 t d = blkIn V c 5 t :=
  (dat V c).before_in_eq_fetched 5 rfl (fun _ => rfl) (fun _ _ _ => rfl) (fun _ => rfl) t d
theorem before_6 (c : Dev nD) (t : Fin cfg1.N) (d) : (dat V c).before 6 t d = blkIn V c 6 t :=
  (dat V c).before_in_eq_fetched 6 rfl (fun _ => rfl) (fun _ _ _ => rfl) (fun _ => rfl) t d

set_option backward.isDefEq.respectTransparency.types false in
/-- At every point the body takes its buffers from what the fetches left to what the proof data states. -/
theorem body_step (c : Dev nD) : BodyObligation (dat V c) (defs₀ (F := F)) 𝒱₀ none Set.univ := fun t => by
  rw [bigSep_W1, bigSep_W1]
  rw [show (dat V c).Φ t.succ = (dat V c).Φ t.castSucc from rfl,
    show (dat V c).owesAt none t.succ = (dat V c).owesAt none t.castSucc from rfl]
  simp only []
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩⟩
  rw [before_0, before_1, before_2, before_3, before_4, before_5, before_6]
  iapply (mlp_body c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7))
    (blkIn V c 0 t) (blkIn V c 1 t) (blkIn V c 2 t) (blkIn V c 3 t) (blkIn V c 4 t) (blkIn V c 5 t) (blkIn V c 6 t) ((dat V c).before 7 t d7) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## The call as one step of @main -/

/-- The result array after the last write-back. -/
def mlpArr (c : Dev nD) : Buf (Elt F) ((c : Thread nD τ).loc main_v6) := (dat V c).arrAt 7 cfg1.N

variable (V' : (c : Dev nD) → (b : Ref sig .tc) → Buf (Elt F) ((c : Thread nD τ).loc b))
  (L : GSem nD τ sig → Finset (HIx 1)) (lv : GSem nD τ sig → HIx 1 → ℕ)

set_option backward.isDefEq.respectTransparency.types false in
/-- The TensorCore call, from the unscoped buffers at `V` to the same at `V'`, which has the result array written and is `V`
    elsewhere. What the core's waits have recorded stays at the levels of the SparseCore call before it. -/
def reg (hout : ∀ c, V' c main_v6 = mlpArr V c) (hne : ∀ c (b : Ref sig .tc), b ≠ main_v6 → V' c b = V c b) :
    Pipeline.RegionSeg (pcfgs (F := F)) adm (pdats V) none defs₀ 𝒱₀ L lv 0 where
  win := launch1.win.to₀
  block_pos := launch1.block_pos
  stage_whole := launch1.stage_whole
  K := PEmpty
  osem k := k.elim
  ho := Pipeline.OwnSemFacts.none _
  hbody c := (body_step V c).loose
  hwaits := Pipeline.hwaits_of_owed_zero _ _ _ _ L lv 0 fun _ _ => rfl
  pre c := iprop(unscopedBufs c (V c) ∗ ∃ W, ⌜(K (F := F)).WBelow (c : Thread nD τ) W 8⌝ ∗ owes (c : Thread nD τ) (0 : CellTallies nD τ sig (HIx 1)) W)
  post c := iprop(unscopedBufs c (V' c) ∗ ∃ W, ⌜(K (F := F)).WBelow (c : Thread nD τ) W 8⌝ ∗ owes (c : Thread nD τ) (0 : CellTallies nD τ sig (HIx 1)) W)
  X _ := BI.emp
  Y _ := BI.emp
  Z c := Pipeline.unscopedRest (Ix := HIx 1) (Name := ℕ) (U := UU) (Lvl := ℕ) spec1 c (V c)
  hentry c := by
    rw [Pipeline.ownSems0_none]
    have hs := Pipeline.arrays_of_unscopedBufs (p := 0) (pcfgs (F := F)) adm (pdats V) launch1.win launch1.arr_whole c
      ((pdats V 0 c).share_full fun _ => rfl) (V c) fun _ => rfl
    iintro ⟨⟨Hub, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none,
      show (pdats V 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hj := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (V' c) ((pdats V 0 c).arrAt · cfg1.N)
      (fun w => by
        fin_cases w
        · exact ((pdats V 0 c).arrAt_in 0 rfl _).trans (hne c main_v2 (by decide)).symm
        · exact ((pdats V 0 c).arrAt_in 1 rfl _).trans (hne c main_arg2 (by decide)).symm
        · exact ((pdats V 0 c).arrAt_in 2 rfl _).trans (hne c main_v3 (by decide)).symm
        · exact ((pdats V 0 c).arrAt_in 3 rfl _).trans (hne c main_arg4 (by decide)).symm
        · exact ((pdats V 0 c).arrAt_in 4 rfl _).trans (hne c main_v4 (by decide)).symm
        · exact ((pdats V 0 c).arrAt_in 5 rfl _).trans (hne c main_arg6 (by decide)).symm
        · exact ((pdats V 0 c).arrAt_in 6 rfl _).trans (hne c main_v5 (by decide)).symm
        · exact (hout c).symm)
      (fun b hb => hne c b fun h => hb (h ▸ Finset.mem_image.mpr ⟨7, Finset.mem_univ _, rfl⟩))
    iintro ⟨Ha, HO, -, Hrest⟩
    imodintro
    isplitl [Ha Hrest]
    · iapply hj; isplitl [Ha] <;> iassumption
    unfold Pipeline.Dat.owesAt Pipeline.owesWithin
    icases HO with ⟨%W, %hW, HO⟩; iexists W; isplitr
    · ipureintro
      intro p hp
      rcases hW hp with h | ⟨w, s, h⟩
      · exact h
      · rw [h]; exact Nat.zero_le _
    iexact HO

end Cert.Proof.Gather

end
-- ==== Proof.Main.lean ====
/- @main on the TensorCore: the host operations, the SparseCore call and the TensorCore call, one after another. -/
module

public import proofs.«01_k».proof.Proof.Deal
public import proofs.«01_k».proof.Proof.Block

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Idealize.ShloMosaic.TcCoe

local notation "𝕄" => MT nD τ sig (HIx 1) (Elt F) ℕ UU ℕ

variable [FloatOps F]

variable (m : (ℓ : Loc nD τ sig) → Buf (Elt F) ℓ) (ρ : Dev nD → PrngReg)

/-! ## What the buffers hold between the steps of @main -/

/-- The host operation before the SparseCore call flattens the indices; -/
abbrev opX : HloOp τ sig (Elt F) := StableHlo.reshape main_arg0 main_v0 (rfl : (.i32 : EltTy) = .i32) shapeCasts_S16384x200_S3276800
/-- those after it lay the gathered rows out by example and give the biases a unit axis. -/
abbrev opsH : List (HloOp τ sig (Elt F)) :=
  [StableHlo.reshape main_v1 main_v2 (rfl : (.f32 : EltTy) = .f32) shapeCasts_S3276800x16_S16384x3200,
   StableHlo.reshape main_arg3 main_v3 (rfl : (.f32 : EltTy) = .f32) shapeCasts_S128_S1x128,
   StableHlo.reshape main_arg5 main_v4 (rfl : (.f32 : EltTy) = .f32) shapeCasts_S64_S1x64,
   StableHlo.reshape main_arg7 main_v5 (rfl : (.f32 : EltTy) = .f32) shapeCasts_S2_S1x2]

/-- At the launch; -/
def W0 (d : Dev nD) : Valuation τ sig (Elt F) := fun b => m (d, b)
/-- with the flattened indices; -/
def W1 (d : Dev nD) : Valuation τ sig (Elt F) := opX.result (W0 m d)

/-- The flattened indices, -/
def IX (d : Dev nD) : Buf (Elt F) (xLoc d) := W1 m d main_v0
/-- the table, -/
def TB (d : Dev nD) : Buf (Elt F) (eLoc d) := W1 m d main_arg1
/-- and what the gathered array holds before the call. -/
def O0 (d : Dev nD) : Buf (Elt F) (oLoc d) := W1 m d main_v1

/-- Every index names a row of the table. -/
def PreOK : Prop := ∀ d r, (IX m d r).toNat < 200

variable (hX : PreOK m)

/-- The gathered rows. -/
def GA (d : Dev nD) : Buf (Elt F) (oLoc d) := gath d (IX m d) (hX d) (TB m d)

/-- With the gathered rows; -/
def W2 (d : Dev nD) : Valuation τ sig (Elt F) := Function.update (W1 m d) (main_v1 : DevRef τ sig) (GA m hX d)
/-- after the host operations; -/
def W3 (d : Dev nD) : Valuation τ sig (Elt F) := StableHlo.after opsH (W2 m hX d)
/-- and with the result. -/
def W4 (d : Dev nD) : Valuation τ sig (Elt F) := Function.update (W3 m hX d) (main_v6 : DevRef τ sig) (mlpArr (fun c b => W3 m hX c b) d)

/-! ## The launch element -/

/-- The rounds of the handshakes, those of the staging cells, and nothing yet of the transfers' counters. -/
def u₀ : UU := (initOf (K (F := F)).hsCells (K (F := F)).hsToks, (initOf (Pipeline.cells (nD := nD) (τ := τ) cfgs cellOf_inj) (Pipeline.launchToks (nD := nD) (τ := τ) cfgs cellOf_inj), 1))

/-- What the TensorCore is dealt for its pipeline. -/
def pipeG (d : Dev nD) : sProp 𝕄 :=
  iprop((bigSep Finset.univ fun p => Pipeline.cellsGhost (τ := τ) (Val := Elt F) (Lvl := ℕ) cfgs EP p d) ∗ bigSep Finset.univ fun p => Pipeline.toksInit (τ := τ) (Val := Elt F) (Lvl := ℕ) cfgs EP p d)

theorem hu₀ (X : (d : Dev nD) → Buf (Elt F) (xLoc d)) (E : (d : Dev nD) → Buf (Elt F) (eLoc d)) (f₀ G : (d : Dev nD) → Buf (Elt F) (oLoc d)) :
    (ownU (u₀ (F := F)) : sProp 𝕄)
    ⊢ |={Set.univ}=> iprop(BI.own (EH (initOf (K (F := F)).hsCells (K (F := F)).hsToks)) ∗ (bigSep Finset.univ fun d : Dev nD => pipeG d)
        ∗ bigSep Finset.univ fun thr : Thread nD τ => bigSep Finset.univ fun q : Fin 1 => (P X E f₀ G).x q thr) := by
  unfold u₀
  iintro Hu
  ihave H := (ownU_pair (initOf (K (F := F)).hsCells (K (F := F)).hsToks) ((initOf (Pipeline.cells (nD := nD) (τ := τ) cfgs cellOf_inj) (Pipeline.launchToks (nD := nD) (τ := τ) cfgs cellOf_inj), 1) : UP × Counters)) $$ Hu
  icases H with ⟨HH, HR⟩
  ihave H := (own_pair_emb embR (initOf (Pipeline.cells (nD := nD) (τ := τ) cfgs cellOf_inj) (Pipeline.launchToks (nD := nD) (τ := τ) cfgs cellOf_inj)) (1 : Counters)) $$ HR
  icases H with ⟨HP, -⟩
  ihave HP := (Entails.of_eq (show (BI.own (((Emb.inl : Emb UP (UP × Counters)).trans embR) (initOf (Pipeline.cells (nD := nD) (τ := τ) cfgs cellOf_inj) (Pipeline.launchToks (nD := nD) (τ := τ) cfgs cellOf_inj))) : sProp 𝕄)
    = BI.own (EP (initOf (Pipeline.cells (nD := nD) (τ := τ) cfgs cellOf_inj) (Pipeline.launchToks (nD := nD) (τ := τ) cfgs cellOf_inj))) from rfl)) $$ HP
  imod (Pipeline.fund_ghost cfgs EP cellOf_inj) $$ HP with ⟨Hg, Ht⟩
  imodintro
  isplitl [HH]; · iexact HH
  isplitl [Hg Ht]
  · unfold pipeG
    rw [bigSep_sep']
    isplitl [Hg] <;> iassumption
  rw [show (bigSep Finset.univ fun thr : Thread nD τ => bigSep Finset.univ fun q : Fin 1 => (P X E f₀ G).x q thr) = bigSep Finset.univ fun _ => iprop(emp) from
    bigSep_congr fun _ _ => bigSep_univ_of_subsingleton (0 : Fin 1),
    show (bigSep Finset.univ fun _ : Thread nD τ => (iprop(emp) : sProp 𝕄)) = iprop(emp) from bigSep_emp_const _]
  iempintro

/-! ## The SparseCore call as a step on the buffers -/

/-- The three arrays of the SparseCore call. -/
abbrev refs3 : Finset (DevRef τ sig) := {(main_v0 : DevRef τ sig), (main_arg1 : DevRef τ sig), (main_v1 : DevRef τ sig)}

theorem refs3_sub : refs3 ⊆ Pipeline.ucRefs τ sig := by decide

theorem held3 (d : Dev nD) (W : Valuation τ sig (Elt F)) :
    (StableHlo.held (d : Thread nD τ) refs3 W : sProp 𝕄)
      = iprop((xLoc d ↦{fullShare} W main_v0) ∗ (eLoc d ↦{fullShare} W main_arg1) ∗ (oLoc d ↦{fullShare} W main_v1)) := by
  unfold StableHlo.held refs3
  rw [SparseCore.bigSep_insert' (by decide), SparseCore.bigSep_insert' (by decide), bigSep_singleton]

/-- The state of the call's payloads, all SparseCores together: the tiles' parts. -/
theorem st_eq (X : (d : Dev nD) → Buf (Elt F) (xLoc d)) (E : (d : Dev nD) → Buf (Elt F) (eLoc d)) (f₀ G : (d : Dev nD) → Buf (Elt F) (oLoc d)) (d : Dev nD) :
    (bigSep Finset.univ fun c : Fin ((K (F := F)).nCore 0) => (P X E f₀ G).st 0 d c)
      = bigSep Finset.univ fun c : Fin 2 => bigSep Finset.univ fun i : Fin 16 => tp X E d (2 * i.val + c.val) (f₀ d) := rfl
theorem dn_eq (X : (d : Dev nD) → Buf (Elt F) (xLoc d)) (E : (d : Dev nD) → Buf (Elt F) (eLoc d)) (f₀ G : (d : Dev nD) → Buf (Elt F) (oLoc d)) (d : Dev nD) :
    (bigSep Finset.univ fun c : Fin ((K (F := F)).nCore 0) => (P X E f₀ G).dn 0 d c)
      = bigSep Finset.univ fun c : Fin 2 => bigSep Finset.univ fun i : Fin 16 => tp X E d (2 * i.val + c.val) (G d) := rfl

/-- The payloads of this program's call. -/
abbrev PM : (K (F := F)).Pay (nD := nD) (Val := Elt F) (Name := ℕ) (U := UU) := P (IX m) (TB m) (O0 m) (GA m hX)

/-- The SparseCore call takes the buffers before it to those with the gathered rows. -/
theorem step_sc (κ : GSem nD τ sig → ℕ) (d : Dev nD) (Φ : PUnit → sProp 𝕄) :
    iprop((K (F := F)).ctx EH (PM m hX) κ ∗ (K (F := F)).tcSt EH d 0 ∗ StableHlo.held (d : Thread nD τ) (Pipeline.ucRefs τ sig) (W1 m d)
        ∗ ((((K (F := F)).tcSt EH d 1) ∗ StableHlo.held (d : Thread nD τ) (Pipeline.ucRefs τ sig) (W2 m hX d)) -∗ Φ ⟨⟩))
      ⊢ wp frame (wpE ((K (F := F)).defs (D (F := F))) 𝒱 (SparseCore.T d) none) Set.univ ((K (F := F)).run d 0) Φ := by
  have hrest : (StableHlo.held (d : Thread nD τ) (Pipeline.ucRefs τ sig \ refs3) (W2 m hX d) : sProp 𝕄)
      = StableHlo.held (d : Thread nD τ) (Pipeline.ucRefs τ sig \ refs3) (W1 m d) :=
    StableHlo.held_congr _ fun b hb => Function.update_of_ne (fun e => (Finset.mem_sdiff.mp hb).2 (by rw [e]; decide)) _ _
  have e0 : W2 m hX d main_v0 = IX m d := Function.update_of_ne (by decide) _ _
  have e1 : W2 m hX d main_arg1 = TB m d := Function.update_of_ne (by decide) _ _
  have e2 : W2 m hX d main_v1 = GA m hX d := Function.update_self _ _ _
  rw [StableHlo.held_sub_split (d : Thread nD τ) refs3_sub (W1 m d), StableHlo.held_sub_split (d : Thread nD τ) refs3_sub (W2 m hX d), hrest,
    held3, held3, e0, e1, e2, show W1 m d main_v0 = IX m d from rfl, show W1 m d main_arg1 = TB m d from rfl, show W1 m d main_v1 = O0 m d from rfl]
  have hst := deal (IX m) (TB m) d (O0 m d)
  have hdn := deal (IX m) (TB m) d (GA m hX d)
  iintro ⟨Hctx, Hst, ⟨Harr, Hrest⟩, Hk⟩
  ihave Harr := (Entails.of_eq hst) $$ Harr
  icases Harr with ⟨Hkept, Htiles⟩
  iapply ((K (F := F)).wp_run (D (F := F)) 𝒱 (EH := EH) (P := PM m hX) κ d 0) $$ [Hctx Hst Htiles Hkept Hrest Hk]
  isplitl [Hctx]; · iexact Hctx
  isplitl [Hst]; · iexact Hst
  isplitl [Htiles]
  · iapply (Entails.of_eq (st_eq (IX m) (TB m) (O0 m) (GA m hX) d).symm); iexact Htiles
  iintro ⟨Hst, Hdn⟩
  iapply Hk
  isplitl [Hst]; · iexact Hst
  isplitr [Hrest]; swap; · iexact Hrest
  ihave Hdn := (Entails.of_eq (dn_eq (IX m) (TB m) (O0 m) (GA m hX) d)) $$ Hdn
  iapply (Entails.of_eq hdn.symm)
  isplitl [Hkept] <;> iassumption

/-- The valuation before the TensorCore call and after it, as the call's record takes them. -/
abbrev V3 (c : Dev nD) (b : Ref sig .tc) : Buf (Elt F) ((c : Thread nD τ).loc b) := W3 m hX c b
abbrev V4 (c : Dev nD) (b : Ref sig .tc) : Buf (Elt F) ((c : Thread nD τ).loc b) := W4 m hX c b

/-- The TensorCore call's record in this program. -/
def regM : Pipeline.RegionSeg (pcfgs (F := F)) adm (pdats (V3 m hX)) none defs₀ 𝒱₀ (K (F := F)).L (K (F := F)).lev 0 :=
  reg (V3 m hX) (V4 m hX) (K (F := F)).L (K (F := F)).lev (fun _ => Function.update_self _ _ _)
    fun _ _ hb => Function.update_of_ne (fun e => hb (Proc.devRef_injective _ e)) _ _

theorem pipeG_eq (d : Dev nD) : (pipeG (F := F) d)
    = iprop(Pipeline.cellsGhost (τ := τ) (Val := Elt F) (Lvl := ℕ) (Pipeline.pin (pcfgs (F := F)) adm) EP 0 d
        ∗ Pipeline.toksInit (τ := τ) (Val := Elt F) (Lvl := ℕ) (Pipeline.pin (pcfgs (F := F)) adm) EP 0 d) := by
  unfold pipeG
  rw [bigSep_univ_of_subsingleton (0 : Fin 1), bigSep_univ_of_subsingleton (0 : Fin 1)]

/-- The TensorCore call takes the buffers before it to those with the result. -/
theorem step_tc [∀ e, Nonempty (Elt F e)] (d : Dev nD) (Φ : PUnit → sProp 𝕄) :
    iprop((iprop(boundary (d : Thread nD τ) ∗ (regM m hX).post d) -∗ Φ ⟨⟩)
        ∗ boundary (d : Thread nD τ) ∗ (regM m hX).pre d ∗ levAts (K (F := F)).L (K (F := F)).lev ∗ pipeG (F := F) d)
      ⊢ wp frame (wpE ((K (F := F)).defs (D (F := F))) 𝒱 (SparseCore.T d) none) Set.univ
          (Prog.lift (.customCall (SparseCore.inner (Pipeline.entry 0)) ())) Φ := by
  rw [pipeG_eq]
  have h := (Pipeline.RegionSeg.wp (pcfgs (F := F)) adm (pdats (V3 m hX)) none cellOf_inj EP defs₀ 𝒱₀ (K (F := F)).L (K (F := F)).lev (regM m hX) d none
    (fun _ h => nomatch h) (fun _ => .ret ⟨⟩) Φ).trans ((K (F := F)).wp_liftProg (D (F := F)) 𝒱 (SparseCore.T d) Set.univ none _ Φ)
  refine BIBase.Entails.trans ?_ h
  iintro ⟨Hk, H⟩
  isplitl [Hk]
  · iintro H'
    rw [wp_ret]
    imodintro
    iapply Hk; iexact H'
  iexact H

theorem held_uc (d : Dev nD) (W : Valuation τ sig (Elt F)) :
    (unscopedBufs d (fun b => W b) : sProp 𝕄) = StableHlo.held (d : Thread nD τ) (Pipeline.ucRefs τ sig) W :=
  Pipeline.unscopedBufs_held d W

theorem two_sub (x y : Ref sig .tc) (hx : (x : DevRef τ sig).isScoped = false) (hy : (y : DevRef τ sig).isScoped = false) :
    ({(x : DevRef τ sig), (y : DevRef τ sig)} : Finset (DevRef τ sig)) ⊆ Pipeline.ucRefs τ sig := by
  intro b hb
  refine Finset.mem_filter.mpr ?_
  rcases Finset.mem_insert.mp hb with rfl | hb
  · exact ⟨StableHlo.devRef_mem_tcRefs x, by rw [hx]; exact Bool.false_ne_true⟩
  · cases Finset.mem_singleton.mp hb; exact ⟨StableHlo.devRef_mem_tcRefs y, by rw [hy]; exact Bool.false_ne_true⟩

theorem regM_pre (d : Dev nD) : (regM m hX).pre d = iprop(StableHlo.held (d : Thread nD τ) (Pipeline.ucRefs τ sig) (W3 m hX d)
    ∗ ∃ W, ⌜(K (F := F)).WBelow (d : Thread nD τ) W 8⌝ ∗ owes (d : Thread nD τ) (0 : CellTallies nD τ sig (HIx 1)) W) := by
  rw [← held_uc]; rfl
theorem regM_post (d : Dev nD) : (regM m hX).post d = iprop(StableHlo.held (d : Thread nD τ) (Pipeline.ucRefs τ sig) (W4 m hX d)
    ∗ ∃ W, ⌜(K (F := F)).WBelow (d : Thread nD τ) W 8⌝ ∗ owes (d : Thread nD τ) (0 : CellTallies nD τ sig (HIx 1)) W) := by
  rw [← held_uc]; rfl

/-- What @main ends with: every buffer of the TensorCore's, at the values after the last step. -/
abbrev FIN (d : Dev nD) : sProp 𝕄 := StableHlo.held (d : Thread nD τ) (Pipeline.ucRefs τ sig) (W4 m hX d)

/-- @main on one device's TensorCore. -/
theorem hmain [∀ e, Nonempty (Elt F e)] (κ : GSem nD τ sig → ℕ) (d : Dev nD) :
    iprop((K (F := F)).ctx EH (PM m hX) κ ∗ (K (F := F)).tcSt EH d 0 ∗ (K (F := F)).tcRes m ρ d ∗ pipeG (F := F) d)
      ⊢ wp frame (wpE ((K (F := F)).defs (D (F := F))) 𝒱 (SparseCore.T d) none) Set.univ (main d)
          fun _ => iprop((K (F := F)).tcSt EH d 1 ∗ FIN m hX d ∗ (K (F := F)).tcEnd d) := by
  unfold SparseCore.Cfg.tcRes SparseCore.Cfg.tcEnd
  rw [show (unscopedBufs d (fun b => m ((SparseCore.T d).loc b)) : sProp 𝕄) = _ from held_uc d (W0 m d)]
  simp only [main, wp_bind, wp_pure]
  iintro ⟨#Hctx, Hst, ⟨Hb, Hheld, Hts, -⟩, Hpg⟩
  iapply (StableHlo.wp_hlo_within 𝒱 (d : Thread nD τ) none Set.univ (op := opX) (S := Pipeline.ucRefs τ sig) (two_sub main_arg0 main_v0 rfl rfl) (V := W0 m d)) $$ [Hb Hheld]
  · isplitl [Hb] <;> iassumption
  iintro ⟨Hb, Hheld⟩
  rw [wp_ret]
  imodintro
  iapply (step_sc m hX κ d) $$ [Hst Hheld Hb Hts Hpg]
  isplitr; · iexact Hctx
  isplitl [Hst]; · iexact Hst
  isplitl [Hheld]; · iexact Hheld
  iintro ⟨Hst, Hheld⟩
  iapply (StableHlo.wp_hlo_within 𝒱 (d : Thread nD τ) none Set.univ (S := Pipeline.ucRefs τ sig) (two_sub main_v1 main_v2 rfl rfl) (V := W2 m hX d)) $$ [Hb Hheld]
  · isplitl [Hb] <;> iassumption
  iintro ⟨Hb, Hheld⟩
  rw [wp_ret]
  imodintro
  iapply (StableHlo.wp_hlo_within 𝒱 (d : Thread nD τ) none Set.univ (S := Pipeline.ucRefs τ sig) (two_sub main_arg3 main_v3 rfl rfl)) $$ [Hb Hheld]
  · isplitl [Hb] <;> iassumption
  iintro ⟨Hb, Hheld⟩
  rw [wp_ret]
  imodintro
  iapply (StableHlo.wp_hlo_within 𝒱 (d : Thread nD τ) none Set.univ (S := Pipeline.ucRefs τ sig) (two_sub main_arg5 main_v4 rfl rfl)) $$ [Hb Hheld]
  · isplitl [Hb] <;> iassumption
  iintro ⟨Hb, Hheld⟩
  rw [wp_ret]
  imodintro
  iapply (StableHlo.wp_hlo_within 𝒱 (d : Thread nD τ) none Set.univ (S := Pipeline.ucRefs τ sig) (two_sub main_arg7 main_v5 rfl rfl)) $$ [Hb Hheld]
  · isplitl [Hb] <;> iassumption
  iintro ⟨Hb, Hheld⟩
  rw [wp_ret]
  imodintro
  ihave #Hlev := ((K (F := F)).ctx_levAts κ) $$ Hctx
  unfold SparseCore.Cfg.tcSt
  rw [(K (F := F)).Otc_end d (n := 1) (Nat.le_refl 1)]
  icases Hst with ⟨HO, Hpos⟩
  iapply (step_tc m hX d)
  rw [regM_pre, regM_post]
  isplitl [Hpos Hts]
  · iintro ⟨Hb, Hheld, HO⟩
    imodintro
    isplitl [HO Hpos]
    · isplitl [HO]; · iexact HO
      iexact Hpos
    isplitl [Hheld]
    · iexact Hheld
    isplitl [Hb] <;> iassumption
  isplitl [Hb]; · iexact Hb
  isplitl [Hheld HO]
  · isplitl [Hheld]
    · iexact Hheld
    iexact HO
  isplitr; · iexact Hlev
  iexact Hpg

/-! ## The program's run -/

/-- The memory holds every unscoped buffer of the TensorCore's at its last value. -/
def fq (d : Dev nD) (s' : Phys nD τ sig (Elt F)) : Prop := ∀ b ∈ Pipeline.ucRefs τ sig, s'.mem.mem (d, b) = W4 m hX d b

theorem hfin (d : Dev nD) (s' : Phys nD τ sig (Elt F)) : iprop(FIN m hX d ∗ SI s') ⊢ (⌜fq m hX d s'⌝ : sProp 𝕄) := by
  have h := SI_pointsTo_bufs_agree (Ix := HIx 1) (Name := ℕ) (U := UU) (Lvl := ℕ) (st := s') (c := d) (qs := fun _ => fullShare) (F := W4 m hX d) (Pipeline.ucRefs τ sig)
  unfold FIN StableHlo.held
  iintro ⟨H, HSI⟩
  iapply h
  isplitl [HSI]; · iexact HSI
  iexact H

/-- Every run of the program from `m`, whose indices all name rows of the table, ends with the buffers at their last values and
    every semaphore at zero. -/
theorem run_main [∀ e, Nonempty (Elt F e)] :
    θ_run (Cert.KernelIdeal.defs (F := F)) (Cert.KernelIdeal.threads (F := F)) ⟨m, fun _ => 0, ρ⟩
      (fun r => (∀ d, ∀ b ∈ Pipeline.ucRefs τ sig, r.2.mem (d, b) = W4 m hX d b) ∧ r.2.sem = fun _ => 0) :=
  SparseCore.Cfg.θ_run_sc_quiescent (K := K (F := F)) (D := D (F := F)) (𝒱 := 𝒱) (EH := EH) (P := PM m hX) (A := ∅) facts v₀
    (fun q hq => match q with | 0 => nomatch hq)
    (fun q _ => match q with | 0 => tileObl (IX m) (TB m) (O0 m) (GA m hX) facts hX (fun _ => rfl))
    (fun q _ => match q with | 0 => SparseCore.Cfg.VecSplit.of_plain (vecSplit (IX m) (TB m) (O0 m) (GA m hX)))
    m ρ main (fun d => pipeG (F := F) d) (FIN m hX) (u₀ (F := F)) (sep_elim_left.trans (hu₀ (IX m) (TB m) (O0 m) (GA m hX)))
    (hmain m ρ hX) (fq m hX) (hfin m hX) _ (fun _ h hz => ⟨h, hz⟩)

end Cert.Proof.Gather

end
-- ==== Proof.Value.lean ====
/- What the run leaves in the arguments and the result, and what the precondition says of the indices. -/
module

public import proofs.«01_k».proof.Proof.Main
public import proofs.«01_k».proof.Defs
public import proofs.«01_k».proof.Proof.Gen.Pre_in_range
public import proofs.«01_k».proof.Proof.Gen.Kernel.Launch
public import Idealize.ShloMosaic.Lib.ReduceAll

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Idealize.ShloMosaic.TcCoe

variable [FloatOps F]

variable (m : (ℓ : Loc nD τ sig) → Buf (Elt F) ℓ) (ρ : Dev nD → PrngReg)

/-! ## The flattened indices and the arguments -/

/-- The flattened indices are the argument's, laid out in one row. -/
theorem IX_eq (d : Dev nD) : IX m d = shapeCast S3276800 (m (d, (main_arg0 : DevRef τ sig))) shapeCasts_S16384x200_S3276800 := by
  unfold IX W1
  exact StableHlo.reshape_result main_arg0 main_v0 (rfl : (.i32 : EltTy) = .i32) shapeCasts_S16384x200_S3276800 _ _ (W0 m d)

/-- The flattening moves nothing else. -/
theorem W1_of_ne (d : Dev nD) (b : DevRef τ sig) (hb : b ≠ (main_v0 : DevRef τ sig)) : W1 m d b = m (d, b) :=
  (opX (F := F)).result_of_not_mem (W0 m d) (b := b) (by simpa using hb)

theorem TB_eq (d : Dev nD) : TB m d = m (d, (main_arg1 : DevRef τ sig)) := W1_of_ne m d _ (by decide)

/-- Where every word of the index argument is below 200, so is every word of its flattening. -/
theorem preOK_of (h : ∀ d (j : S16384x200.Idx), (m (d, (main_arg0 : DevRef τ sig)) j : BitVec 32).toNat < 200) : PreOK m := by
  intro d r
  rw [IX_eq]
  exact h d _

variable (hX : PreOK m)

/-- What neither a host operation nor a call writes ends as it started. -/
theorem W4_kept (d : Dev nD) (b : DevRef τ sig)
    (hb : b ∉ ({(main_v0 : DevRef τ sig), (main_v1 : DevRef τ sig), (main_v2 : DevRef τ sig), (main_v3 : DevRef τ sig), (main_v4 : DevRef τ sig), (main_v5 : DevRef τ sig), (main_v6 : DevRef τ sig)} : Finset (DevRef τ sig))) :
    W3 m hX d b = m (d, b) ∧ W4 m hX d b = m (d, b) := by
  simp only [Finset.mem_insert, Finset.mem_singleton, not_or] at hb
  obtain ⟨h0, h1, h2, h3, h4, h5, h6⟩ := hb
  have h : W3 m hX d b = m (d, b) := by
    unfold W3
    rw [StableHlo.after_of_forall_not_mem]
    · unfold W2
      rw [Function.update_of_ne h1, W1_of_ne m d b h0]
    · intro op hop
      simp only [opsH, List.mem_cons, List.not_mem_nil, or_false] at hop
      rcases hop with rfl | rfl | rfl | rfl <;> simpa
  exact ⟨h, by unfold W4; rw [Function.update_of_ne h6, h]⟩

/-- A buffer that is not scoped is among those that the run is read at. -/
theorem mem_uc (x : Ref sig .tc) (hx : (x : DevRef τ sig).isScoped = false) : (x : DevRef τ sig) ∈ Pipeline.ucRefs τ sig :=
  Finset.mem_filter.mpr ⟨StableHlo.devRef_mem_tcRefs x, by rw [hx]; exact Bool.false_ne_true⟩

/-- The run: the result is what the TensorCore call leaves, the arguments are unchanged, the counters are back at zero. -/
theorem run_values [∀ e, Nonempty (Elt F e)] : θ_run (Cert.KernelIdeal.defs (F := F)) (Cert.KernelIdeal.threads (F := F)) ⟨m, fun _ => 0, ρ⟩
    (fun r => (∀ c : Dev nD,
        r.2.mem (c, (main_v6 : DevRef τ sig)) = mlpArr (fun c b => W3 m hX c b) c
        ∧ r.2.mem (c, (main_arg0 : DevRef τ sig)) = m (c, (main_arg0 : DevRef τ sig))
        ∧ r.2.mem (c, (main_arg1 : DevRef τ sig)) = m (c, (main_arg1 : DevRef τ sig))
        ∧ r.2.mem (c, (main_arg2 : DevRef τ sig)) = m (c, (main_arg2 : DevRef τ sig))
        ∧ r.2.mem (c, (main_arg3 : DevRef τ sig)) = m (c, (main_arg3 : DevRef τ sig))
        ∧ r.2.mem (c, (main_arg4 : DevRef τ sig)) = m (c, (main_arg4 : DevRef τ sig))
        ∧ r.2.mem (c, (main_arg5 : DevRef τ sig)) = m (c, (main_arg5 : DevRef τ sig))
        ∧ r.2.mem (c, (main_arg6 : DevRef τ sig)) = m (c, (main_arg6 : DevRef τ sig))
        ∧ r.2.mem (c, (main_arg7 : DevRef τ sig)) = m (c, (main_arg7 : DevRef τ sig)))
      ∧ r.2.sem = fun _ => 0) :=
  (θ_run Cert.KernelIdeal.defs _ _).mono (fun _ h => ⟨fun c =>
    ⟨(h.1 c _ (mem_uc _ (by decide))).trans (by unfold W4; exact Function.update_self ..),
     (h.1 c _ (mem_uc _ (by decide))).trans (W4_kept m hX c _ (by decide)).2,
     (h.1 c _ (mem_uc _ (by decide))).trans (W4_kept m hX c _ (by decide)).2,
     (h.1 c _ (mem_uc _ (by decide))).trans (W4_kept m hX c _ (by decide)).2,
     (h.1 c _ (mem_uc _ (by decide))).trans (W4_kept m hX c _ (by decide)).2,
     (h.1 c _ (mem_uc _ (by decide))).trans (W4_kept m hX c _ (by decide)).2,
     (h.1 c _ (mem_uc _ (by decide))).trans (W4_kept m hX c _ (by decide)).2,
     (h.1 c _ (mem_uc _ (by decide))).trans (W4_kept m hX c _ (by decide)).2,
     (h.1 c _ (mem_uc _ (by decide))).trans (W4_kept m hX c _ (by decide)).2⟩, h.2⟩) (run_main m ρ hX)

/-! ## The precondition -/

/-- A word that is at least 0 and below 200 as a signed number is below 200 as an unsigned one. -/
theorem word_of_range (v : BitVec 32) (e : IntOp.andi (IntOp.cmpi .sge v 0#32) (IntOp.cmpi .slt v 200#32) = 1#1) : v.toNat < 200 := by
  have h1 (p q : Bool) : IntOp.andi (BitVec.ofBool p) (BitVec.ofBool q) = BitVec.ofBool (p && q) := by
    cases p <;> cases q <;> decide
  have h2 (p : Bool) : (BitVec.ofBool p = 1#1) ↔ p = true := by cases p <;> decide
  simp only [IntOp.cmpi, h1, h2, Bool.and_eq_true, BitVec.sle_eq_decide, BitVec.slt_eq_decide,
    decide_eq_true_eq, BitVec.toInt_eq_toNat_cond, BitVec.toNat_ofNat, Nat.reducePow, Nat.reduceMod] at e
  omega

/-- The precondition bounds every word of its first argument. -/
theorem range_of_fn [Cert.Pre_in_range.Facts] (a0 : IVec Cert.Pre_in_range.S16384x200 32) (a1 : FVec F Cert.Pre_in_range.S200x16 .f32) (a2 : FVec F Cert.Pre_in_range.S3200x128 .f32)
    (a3 : FVec F Cert.Pre_in_range.S128 .f32) (a4 : FVec F Cert.Pre_in_range.S128x64 .f32) (a5 : FVec F Cert.Pre_in_range.S64 .f32) (a6 : FVec F Cert.Pre_in_range.S64x2 .f32) (a7 : FVec F Cert.Pre_in_range.S2 .f32)
    (h : Cert.Pre_in_range.fn a0 a1 a2 a3 a4 a5 a6 a7 = fun _ => 1#1) (j : Cert.Pre_in_range.S16384x200.Idx) : (a0 j).toNat < 200 := by
  have : Subsingleton (Shape.Idx Cert.Pre_in_range.S_) := ⟨fun a b => funext fun i : Fin 0 => i.elim0⟩
  have e := congrFun h fun i : Fin 0 => i.elim0
  dsimp only [Cert.Pre_in_range.fn] at e
  exact word_of_range _ (Host.reduce_andi_all _ _ _ _ _ e j)

end Cert.Proof.Gather

end
-- ==== Proof.Layers.lean ====
/- The result, element by element over the extended reals: the kernel's three layers and the reference's. -/
module

public import proofs.«01_k».proof.Proof.Value
public import proofs.«01_k».proof.Proof.Gen.ReferenceIdeal.Run
public import Idealize.ShloMosaic.Lib.Pointwise
public import Idealize.ShloMosaic.Lib.Pipeline.ValueKit.Geometry

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Idealize.ShloMosaic.TcCoe

/-- The three layers on one example: `e` its gathered entries, then per layer the weights and the bias. -/
def layers (e : Fin 3200 → Ideal .f32) (w1 : S3200x128.Idx → Ideal .f32) (b1 : Fin 128 → Ideal .f32) (w2 : S128x64.Idx → Ideal .f32) (b2 : Fin 64 → Ideal .f32)
    (w3 : S64x2.Idx → Ideal .f32) (b3 : Fin 2 → Ideal .f32) (j : Fin 2) : Ideal .f32 :=
  (∑ q : Fin 64, max ((∑ p : Fin 128, max ((∑ k : Fin 3200, e k * w1 (ix2 k p)) + b1 p) 0 * w2 (ix2 p q)) + b2 q) 0 * w3 (ix2 q j)) + b3 j

/-! ## The kernel -/

/-- What the body leaves is the three layers of each of its rows. -/
theorem pay_apply (x0 : Vec Ideal S512x3200 .f32) (x1 : Vec Ideal S3200x128 .f32) (x2 : Vec Ideal S1x128 .f32) (x3 : Vec Ideal S128x64 .f32)
    (x4 : Vec Ideal S1x64 .f32) (x5 : Vec Ideal S64x2 .f32) (x6 : Vec Ideal S1x2 .f32) (y : S512x2.Idx) :
    k1_pay1 x0 x1 x2 x3 x4 x5 x6 y
      = layers (fun k => x0 (ix2 (y 0) k)) x1 (fun p => x2 (ix2 0 p)) x3 (fun q => x4 (ix2 0 q)) x5 (fun j => x6 (ix2 0 j)) (y 1) := by
  pointwise [k1_pay1, layers]

variable (V : (c : Dev nD) → (b : Ref sig .tc) → Buf (Elt Ideal) ((c : Thread nD τ).loc b))

/-- The TensorCore call's result: row `i` is the three layers of row `i` of its first operand. -/
def mlpOf (c : Dev nD) : Buf (Elt Ideal) ((c : Thread nD τ).loc main_v6) := fun i =>
  layers (fun k => V c main_v2 (ix2 (i 0) k)) (V c main_arg2) (fun p => V c main_v3 (ix2 0 p)) (V c main_arg4) (fun q => V c main_v4 (ix2 0 q))
    (V c main_arg6) (fun j => V c main_v5 (ix2 0 j)) (i 1)

theorem index_0 : ∀ t : Fin cfg1.N, win1_0.index t = ![t.val, 0] := (by decide +kernel : ∀ t : Fin grid1.N, _)
theorem index_1 : ∀ t : Fin cfg1.N, win1_1.index t = ![0, 0] := (by decide +kernel : ∀ t : Fin grid1.N, _)
theorem index_2 : ∀ t : Fin cfg1.N, win1_2.index t = ![0, 0] := (by decide +kernel : ∀ t : Fin grid1.N, _)
theorem index_3 : ∀ t : Fin cfg1.N, win1_3.index t = ![0, 0] := (by decide +kernel : ∀ t : Fin grid1.N, _)
theorem index_4 : ∀ t : Fin cfg1.N, win1_4.index t = ![0, 0] := (by decide +kernel : ∀ t : Fin grid1.N, _)
theorem index_5 : ∀ t : Fin cfg1.N, win1_5.index t = ![0, 0] := (by decide +kernel : ∀ t : Fin grid1.N, _)
theorem index_6 : ∀ t : Fin cfg1.N, win1_6.index t = ![0, 0] := (by decide +kernel : ∀ t : Fin grid1.N, _)
theorem index_7 : ∀ t : Fin cfg1.N, win1_7.index t = ![t.val, 0] := (by decide +kernel : ∀ t : Fin grid1.N, _)

/-- A block of an operand whose every block is the whole of it. -/
theorem blk_1 (c : Dev nD) (t : Fin cfg1.N) : blkIn V c 1 t = V c main_arg2 := by
  funext y; blk_simp [blkIn]; congr 1; blk_ext [index_1]
theorem blk_2 (c : Dev nD) (t : Fin cfg1.N) : blkIn V c 2 t = V c main_v3 := by
  funext y; blk_simp [blkIn]; congr 1; blk_ext [index_2]
theorem blk_3 (c : Dev nD) (t : Fin cfg1.N) : blkIn V c 3 t = V c main_arg4 := by
  funext y; blk_simp [blkIn]; congr 1; blk_ext [index_3]
theorem blk_4 (c : Dev nD) (t : Fin cfg1.N) : blkIn V c 4 t = V c main_v4 := by
  funext y; blk_simp [blkIn]; congr 1; blk_ext [index_4]
theorem blk_5 (c : Dev nD) (t : Fin cfg1.N) : blkIn V c 5 t = V c main_arg6 := by
  funext y; blk_simp [blkIn]; congr 1; blk_ext [index_5]
theorem blk_6 (c : Dev nD) (t : Fin cfg1.N) : blkIn V c 6 t = V c main_v5 := by
  funext y; blk_simp [blkIn]; congr 1; blk_ext [index_6]

/-- The blocks written back make up that array. -/
theorem mlpArr_eq (c : Dev nD) : mlpArr V c = mlpOf V c := by
  unfold mlpArr
  refine (dat V c).arrAt_eq_of_covers 7 _ (by decide +kernel) fun t hf y => ?_
  blk_simp
  show blkOut V c t y = _
  unfold blkOut
  rw [pay_apply, blk_1, blk_2, blk_3, blk_4, blk_5, blk_6]
  unfold mlpOf
  have e1 : ((win1_7.blk t).view.emb y) 1 = y 1 := by apply Fin.ext; blk_simp [index_7]
  have e0 : ∀ k : Fin 3200, (win1_0.blk t).view.emb (ix2 (y 0) k) = ix2 (((win1_7.blk t).view.emb y) 0) k := fun k => by
    blk_ext [index_0, index_7]
  rw [e1]
  congr 1
  funext k
  blk_simp [blkIn]
  rw [e0]
  rfl

/-! ## The operands of the TensorCore call -/

section
variable [FloatOps F] (m : (ℓ : Loc nD τ sig) → Buf (Elt F) ℓ) (hX : PreOK m)

/-- An argument's buffer is not moved before the TensorCore call's operands are laid out. -/
theorem W2_arg (d : Dev nD) (b : DevRef τ sig) (h0 : b ≠ (main_v0 : DevRef τ sig)) (h1 : b ≠ (main_v1 : DevRef τ sig)) : W2 m hX d b = m (d, b) := by
  unfold W2
  rw [Function.update_of_ne h1, W1_of_ne m d b h0]

/-- The call's first operand is the gathered rows, one example to a row; -/
theorem W3_v2 (d : Dev nD) : W3 m hX d main_v2 = shapeCast S16384x3200 (GA m hX d) shapeCasts_S3276800x16_S16384x3200 := by
  unfold W3
  simp only [opsH]
  after_results
  unfold W2
  rw [Function.update_self]
  rfl
/-- the biases are the arguments', -/
theorem W3_v3 (d : Dev nD) : W3 m hX d main_v3 = shapeCast S1x128 (m (d, (main_arg3 : DevRef τ sig))) shapeCasts_S128_S1x128 := by
  unfold W3
  simp only [opsH]
  after_results
  rw [W2_arg m hX d _ (by decide) (by decide)]
  rfl
/-- with a unit axis -/
theorem W3_v4 (d : Dev nD) : W3 m hX d main_v4 = shapeCast S1x64 (m (d, (main_arg5 : DevRef τ sig))) shapeCasts_S64_S1x64 := by
  unfold W3
  simp only [opsH]
  after_results
  rw [W2_arg m hX d _ (by decide) (by decide)]
  rfl
/-- in front. -/
theorem W3_v5 (d : Dev nD) : W3 m hX d main_v5 = shapeCast S1x2 (m (d, (main_arg7 : DevRef τ sig))) shapeCasts_S2_S1x2 := by
  unfold W3
  simp only [opsH]
  after_results
  rw [W2_arg m hX d _ (by decide) (by decide)]
  rfl

/-- Entry `k` of example `i` is entry `k % 16` of gathered row `200 i + k / 16`. -/
theorem cast_rows {α : Type} (X : S3276800x16.Idx → α) (i : Fin 16384) (k : Fin 3200) :
    shapeCast S16384x3200 X shapeCasts_S3276800x16_S16384x3200 (ix2 i k) = X (ix2 ⟨i.val * 200 + k.val / 16, by omega⟩ ⟨k.val % 16, by omega⟩) := by
  unfold shapeCast
  congr 1
  refine Shape.reshapeEquiv_eq_of_rowMajor _ ?_
  rw [Shape.rowMajor_val_two, Shape.rowMajor_val_two]
  show (i.val * 200 + k.val / 16) * 16 + k.val % 16 = i.val * 3200 + k.val
  omega

/-- Flattened, index `q` of example `i` stands at `200 i + q`. -/
theorem cast_flat {α : Type} (X : S16384x200.Idx → α) (i : Fin 16384) (q : Fin 200) (r : S3276800.Idx) (hr : (r 0).val = i.val * 200 + q.val) :
    shapeCast S3276800 X shapeCasts_S16384x200_S3276800 r = X (ix2 i q) := by
  unfold shapeCast
  congr 1
  refine Shape.reshapeEquiv_eq_of_rowMajor _ ?_
  rw [Shape.rowMajor_val_two, Shape.rowMajor_val_one, hr]
  rfl

/-- So entry `k` of example `i` is entry `k % 16` of the row of the table that index `k / 16` of the example names. -/
theorem v2_apply (h : ∀ d (j : S16384x200.Idx), (m (d, (main_arg0 : DevRef τ sig)) j : BitVec 32).toNat < 200) (d : Dev nD) (i : Fin 16384) (k : Fin 3200) : W3 m (preOK_of m h) d main_v2 (ix2 i k)
    = m (d, (main_arg1 : DevRef τ sig)) (ix2 ⟨(m (d, (main_arg0 : DevRef τ sig)) (ix2 i ⟨k.val / 16, by omega⟩) : BitVec 32).toNat, h d _⟩ ⟨k.val % 16, by omega⟩) := by
  rw [W3_v2, cast_rows]
  unfold GA gath
  rw [TB_eq]
  congr 1
  funext a
  match a with
  | 0 =>
    apply Fin.ext
    show (IX m d _).toNat = (m (d, (main_arg0 : DevRef τ sig)) _ : BitVec 32).toNat
    rw [IX_eq]
    exact congrArg BitVec.toNat (cast_flat _ i ⟨k.val / 16, by omega⟩ _ rfl)
  | 1 => rfl
end

/-- The result of the program: the three layers of each example's gathered rows. -/
theorem result_apply (m : (ℓ : Loc nD τ sig) → Buf (Elt Ideal) ℓ) (h : ∀ d (j : S16384x200.Idx), (m (d, (main_arg0 : DevRef τ sig)) j : BitVec 32).toNat < 200)
    (d : Dev nD) (y : S16384x2.Idx) :
    mlpArr (fun c b => W3 m (preOK_of m h) c b) d y
      = layers (fun k => m (d, (main_arg1 : DevRef τ sig)) (ix2 ⟨(m (d, (main_arg0 : DevRef τ sig)) (ix2 (y 0) ⟨k.val / 16, by omega⟩) : BitVec 32).toNat, h d _⟩ ⟨k.val % 16, by omega⟩))
          (m (d, (main_arg2 : DevRef τ sig))) (fun p => m (d, (main_arg3 : DevRef τ sig)) (ix1 p)) (m (d, (main_arg4 : DevRef τ sig))) (fun q => m (d, (main_arg5 : DevRef τ sig)) (ix1 q))
          (m (d, (main_arg6 : DevRef τ sig))) (fun j => m (d, (main_arg7 : DevRef τ sig)) (ix1 j)) (y 1) := by
  rw [mlpArr_eq]
  unfold mlpOf
  beta_reduce
  rw [(W4_kept m (preOK_of m h) d (main_arg2 : DevRef τ sig) (by decide)).1, (W4_kept m (preOK_of m h) d (main_arg4 : DevRef τ sig) (by decide)).1,
    (W4_kept m (preOK_of m h) d (main_arg6 : DevRef τ sig) (by decide)).1, W3_v3, W3_v4, W3_v5]
  have e3 : ∀ (X : S128.Idx → Ideal .f32) (p : Fin 128), shapeCast S1x128 X shapeCasts_S128_S1x128 (ix2 0 p) = X (ix1 p) := fun X p => by pointwise
  have e4 : ∀ (X : S64.Idx → Ideal .f32) (p : Fin 64), shapeCast S1x64 X shapeCasts_S64_S1x64 (ix2 0 p) = X (ix1 p) := fun X p => by pointwise
  have e5 : ∀ (X : S2.Idx → Ideal .f32) (p : Fin 2), shapeCast S1x2 X shapeCasts_S2_S1x2 (ix2 0 p) = X (ix1 p) := fun X p => by pointwise
  have e2 := v2_apply m h d (y 0)
  simp only [e3, e4, e5]
  congr 1
  funext k
  exact e2 k

end Cert.Proof.Gather

end
-- ==== Proof.Reference.lean ====
/- The reference's run, element by element over the extended reals. -/
module

public import proofs.«01_k».proof.Proof.Layers

@[expose] public section

noncomputable section

namespace Cert.Proof.Reference

open Cert.ReferenceIdeal Cert.ReferenceIdeal.Gen Idealize.ShloMosaic Idealize.ShloMosaic.TcCoe Idealize.SL.Sem Idealize.ShloMosaic.StableHlo

/-- The layers as the reference writes them, over whatever was taken out of the table. -/
theorem ref_apply (T : FVec Ideal S16384x200x16 .f32) (w1 : FVec Ideal S3200x128 .f32) (b1 : FVec Ideal S128 .f32)
    (w2 : FVec Ideal S128x64 .f32) (b2 : FVec Ideal S64 .f32) (w3 : FVec Ideal S64x2 .f32) (b3 : FVec Ideal S2 .f32) (y : S16384x2.Idx) :
  addf (Host.dotGeneral dot_S16384x64_S64x2_S16384x2_1_0_0_1_n_n none (maximumf (addf (Host.dotGeneral dot_S16384x128_S128x64_S16384x64_1_0_0_1_n_n none (maximumf (addf (Host.dotGeneral dot_S16384x3200_S3200x128_S16384x128_1_0_0_1_n_n none (shapeCast S16384x3200 T shapeCasts_S16384x200x16_S16384x3200) w1) (broadcastInDim S16384x128 ![0, 1] bcast_S1x128_S16384x128_0_1 (broadcastInDim S1x128 ![1] bcast_S128_S1x128_1 b1))) (broadcastInDim S16384x128 ![] bcast_S_S16384x128 (constant S_ .f32 0x00000000#32))) w2) (broadcastInDim S16384x64 ![0, 1] bcast_S1x64_S16384x64_0_1 (broadcastInDim S1x64 ![1] bcast_S64_S1x64_1 b2))) (broadcastInDim S16384x64 ![] bcast_S_S16384x64 (constant S_ .f32 0x00000000#32))) w3) (broadcastInDim S16384x2 ![0, 1] bcast_S1x2_S16384x2_0_1 (broadcastInDim S1x2 ![1] bcast_S2_S1x2_1 b3)) y
    = Cert.Proof.Gather.layers (fun k => T (ix3 (y 0) ⟨k.val / 16, by omega⟩ ⟨k.val % 16, by omega⟩)) w1 (fun p => b1 (ix1 p)) w2 (fun q => b2 (ix1 q)) w3 (fun j => b3 (ix1 j)) (y 1) := by
  pointwise [Cert.Proof.Gather.layers]

/-- Entry `e` of the row that index `(i, q)` names, where it is in range. -/
theorem gather_apply (E : FVec Ideal S200x16 .f32) (I : IVec S16384x200x1 32) (i : Fin 16384) (q : Fin 200) (e : Fin 16) (h : (I (ix3 i q 0)).toNat < 200) :
    Host.gather gather_S200x16_S16384x200x1_S16384x200x16_2_0_n_n_0_2_116 E I (ix3 i q e) = E (ix2 ⟨(I (ix3 i q 0)).toNat, h⟩ e) := by
  unfold Host.gather
  congr 1
  funext a
  refine Fin.ext ?_
  show GatherDims.start gather_S200x16_S16384x200x1_S16384x200x16_2_0_n_n_0_2_116 (ix3 i q e) I a + GatherDims.batchCoord gather_S200x16_S16384x200x1_S16384x200x16_2_0_n_n_0_2_116 (ix3 i q e) a + GatherDims.offCoord gather_S200x16_S16384x200x1_S16384x200x16_2_0_n_n_0_2_116 (ix3 i q e) a = _
  rw [GatherDims.batchCoord_eq_zero _ _ _ List.not_mem_nil]
  match a with
  | 0 =>
    rw [GatherDims.offCoord_eq_zero _ _ _ (fun h => ((GatherDims.mem_sKept _ _).mp h).1 (List.mem_singleton.mpr rfl))]
    unfold GatherDims.start
    rw [dif_pos (show (0 : Fin 2) ∈ gather_S200x16_S16384x200x1_S16384x200x16_2_0_n_n_0_2_116.startIndexMap from List.mem_singleton.mpr rfl)]
    have hsi : GatherDims.siIdx gather_S200x16_S16384x200x1_S16384x200x16_2_0_n_n_0_2_116 (ix3 i q e) ⟨List.idxOf (0 : Fin 2) gather_S200x16_S16384x200x1_S16384x200x16_2_0_n_n_0_2_116.startIndexMap,
      List.idxOf_lt_length_iff.2 (List.mem_singleton.mpr rfl)⟩ = ix3 i q 0 := by
      funext b; refine Fin.ext ?_
      match b with
      | 0 => rfl
      | 1 => rfl
      | 2 => rfl
    rw [hsi]
    show min (I (ix3 i q 0)).toInt.toNat 199 + 0 + 0 = (I (ix3 i q 0)).toNat
    rw [BitVec.toInt_eq_toNat_cond]
    split <;> omega
  | 1 =>
    show _ = e.val
    unfold GatherDims.start
    rw [dif_neg (by decide)]
    simp only [Nat.zero_add]
    rfl

/-- An index in range is not moved. -/
theorem wrap (X : IVec S16384x200 32) (h : ∀ j, (X j).toNat < 200) :
    select (cmpi .slt X (broadcastInDim S16384x200 ![] bcast_S_S16384x200 (constantI S_ 32 0#32))) (addi X (broadcastInDim S16384x200 ![] bcast_S_S16384x200 (constantI S_ 32 200#32))) X = X := by
  funext j
  have hj := h j
  have e : IntOp.cmpi .slt (X j) 0#32 = 0#1 := by
    have : (X j).slt 0#32 = false := by
      simp only [BitVec.slt_eq_decide, BitVec.toInt_eq_toNat_cond, BitVec.toNat_ofNat, decide_eq_false_iff_not]
      omega
    simp [IntOp.cmpi, this]
  show Scalar.select (IntOp.cmpi .slt (X j) 0#32) _ (X j) = X j
  rw [e]
  rfl

/-- And the bounds are met everywhere. -/
theorem mask (X : IVec S16384x200 32) (h : ∀ j, (X j).toNat < 200) :
    Host.reduce IntOp.andi (andi (cmpi .sge (broadcastInDim S16384x200x1 ![0, 1] bcast_S16384x200_S16384x200x1_0_1 X) (broadcastInDim S16384x200x1 ![] bcast_S_S16384x200x1 (constantI S_ 32 0#32))) (cmpi .sle (broadcastInDim S16384x200x1 ![0, 1] bcast_S16384x200_S16384x200x1_0_1 X) (broadcastInDim S16384x200x1 ![0, 1, 2] bcast_S1x1x1_S16384x200x1_0_1_2 (broadcastInDim S1x1x1 ![2] bcast_S1_S1x1x1_2 (constantI S1 32 199#32))))) (constantI S_ 1 1#1) reducesTo_S16384x200x1_S16384x200_d2 h_S_ = fun _ => 1#1 := by
  funext j
  refine Host.reduce_andi_one _ _ _ _ _ rfl fun i => ?_
  show IntOp.andi (IntOp.cmpi .sge (broadcastInDim S16384x200x1 ![0, 1] bcast_S16384x200_S16384x200x1_0_1 X i) 0#32) (IntOp.cmpi .sle (broadcastInDim S16384x200x1 ![0, 1] bcast_S16384x200_S16384x200x1_0_1 X i) 199#32) = 1#1
  obtain ⟨v, hv, hlt⟩ : ∃ v, broadcastInDim S16384x200x1 ![0, 1] bcast_S16384x200_S16384x200x1_0_1 X i = v ∧ v.toNat < 200 := ⟨_, rfl, h _⟩
  rw [hv]
  have h1 : (0#32).sle v = true := by
    simp only [BitVec.sle_eq_decide, BitVec.toInt_eq_toNat_cond, BitVec.toNat_ofNat, decide_eq_true_eq]
    omega
  have h2 : v.sle 199#32 = true := by
    simp only [BitVec.sle_eq_decide, BitVec.toInt_eq_toNat_cond, BitVec.toNat_ofNat, decide_eq_true_eq]
    omega
  simp [IntOp.cmpi, h1, h2, IntOp.andi]

/-- What the reference takes out of the table. -/
def taken (X : IVec S16384x200 32) (E : FVec Ideal S200x16 .f32) : FVec Ideal S16384x200x16 .f32 :=
  (select (broadcastInDim S16384x200x16 ![0, 1] bcast_S16384x200_S16384x200x16_0_1 (Host.reduce IntOp.andi (andi (cmpi .sge (broadcastInDim S16384x200x1 ![0, 1] bcast_S16384x200_S16384x200x1_0_1 (select (cmpi .slt X (broadcastInDim S16384x200 ![] bcast_S_S16384x200 (constantI S_ 32 0#32))) (addi X (broadcastInDim S16384x200 ![] bcast_S_S16384x200 (constantI S_ 32 200#32))) X)) (broadcastInDim S16384x200x1 ![] bcast_S_S16384x200x1 (constantI S_ 32 0#32))) (cmpi .sle (broadcastInDim S16384x200x1 ![0, 1] bcast_S16384x200_S16384x200x1_0_1 (select (cmpi .slt X (broadcastInDim S16384x200 ![] bcast_S_S16384x200 (constantI S_ 32 0#32))) (addi X (broadcastInDim S16384x200 ![] bcast_S_S16384x200 (constantI S_ 32 200#32))) X)) (broadcastInDim S16384x200x1 ![0, 1, 2] bcast_S1x1x1_S16384x200x1_0_1_2 (broadcastInDim S1x1x1 ![2] bcast_S1_S1x1x1_2 (constantI S1 32 199#32))))) (constantI S_ 1 1#1) reducesTo_S16384x200x1_S16384x200_d2 h_S_)) (Host.gather gather_S200x16_S16384x200x1_S16384x200x16_2_0_n_n_0_2_116 E (broadcastInDim S16384x200x1 ![0, 1] bcast_S16384x200_S16384x200x1_0_1 (select (cmpi .slt X (broadcastInDim S16384x200 ![] bcast_S_S16384x200 (constantI S_ 32 0#32))) (addi X (broadcastInDim S16384x200 ![] bcast_S_S16384x200 (constantI S_ 32 200#32))) X))) (broadcastInDim S16384x200x16 ![] bcast_S_S16384x200x16 (constant S_ .f32 0x7FC00000#32)))

/-- Where every index is in range, the rows that the indices name. -/
theorem taken_apply (X : IVec S16384x200 32) (E : FVec Ideal S200x16 .f32) (h : ∀ j, (X j).toNat < 200) (i : Fin 16384) (q : Fin 200) (e : Fin 16) :
    taken X E (ix3 i q e) = E (ix2 ⟨(X (ix2 i q)).toNat, h _⟩ e) := by
  unfold taken
  rw [wrap X h, mask X h]
  have hb : broadcastInDim S16384x200x1 ![0, 1] bcast_S16384x200_S16384x200x1_0_1 X (ix3 i q 0) = X (ix2 i q) := by pointwise
  refine (?_ : _ = Host.gather gather_S200x16_S16384x200x1_S16384x200x16_2_0_n_n_0_2_116 E (broadcastInDim S16384x200x1 ![0, 1] bcast_S16384x200_S16384x200x1_0_1 X) (ix3 i q e)).trans ?_
  · rfl
  · rw [gather_apply E _ i q e (by rw [hb]; exact h _)]
    simp only [hb]

/-- The reference's run: its result is the three layers of each example's rows of the table, its arguments are unchanged. -/
theorem run_layers (m : (ℓ : Loc nD τ sig) → Buf (Elt Ideal) ℓ) (ρ : Dev nD → PrngReg)
    (h : ∀ (d : Dev nD) (j : S16384x200.Idx), (m ((d.tc : Thread nD τ).loc main_arg0) j : BitVec 32).toNat < 200) :
    θ_run defs (onTc (τ := τ) (main (F := Ideal))) ⟨m, fun _ => 0, ρ⟩ fun r => ∀ c : Dev nD,
      (∀ y : S16384x2.Idx, r.2.mem ((c.tc : Thread nD τ).loc main_v15) y
        = Gather.layers (fun k => m ((c.tc : Thread nD τ).loc main_arg1) (ix2 ⟨(m ((c.tc : Thread nD τ).loc main_arg0) (ix2 (y 0) ⟨k.val / 16, by omega⟩) : BitVec 32).toNat, h c _⟩ ⟨k.val % 16, by omega⟩))
            (m ((c.tc : Thread nD τ).loc main_arg2)) (fun p => m ((c.tc : Thread nD τ).loc main_arg3) (ix1 p)) (m ((c.tc : Thread nD τ).loc main_arg4)) (fun q => m ((c.tc : Thread nD τ).loc main_arg5) (ix1 q))
            (m ((c.tc : Thread nD τ).loc main_arg6)) (fun j => m ((c.tc : Thread nD τ).loc main_arg7) (ix1 j)) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r hr c => ⟨fun y => ?_, (hr c).2⟩) (Cert.ReferenceIdeal.Value.run m ρ)
  refine (congrFun (hr c).1 y).trans ((ref_apply (taken (m ((c.tc : Thread nD τ).loc main_arg0)) (m ((c.tc : Thread nD τ).loc main_arg1))) _ _ _ _ _ _ y).trans ?_)
  refine congrFun (congrFun (congrFun (congrFun (congrFun (congrFun (congrFun (congrArg Gather.layers ?_) _) _) _) _) _) _) _
  funext k
  exact taken_apply _ _ (h c) _ _ _

end Cert.Proof.Reference

end
-- ==== Proof.lean ====
/-
  The claims: the program and its ideal form run to the end with their arguments unchanged and their counters back at zero; so
  does the reference; and over the extended reals the program's result is the reference's.

  Proof/Setup.lean to Proof/Deal.lean are the SparseCore call (the views, one copy at a time, one tile, the launch, the dealing
  of the arrays to the tiles); Proof/Block.lean is the TensorCore call; Proof/Main.lean the whole run, for any float values;
  Proof/Value.lean reads it at the arguments; Proof/Layers.lean and Proof/Reference.lean are the two results element by element.
-/
module

public import proofs.«01_k».proof.Proof.Reference
public import proofs.«01_k».proof.Proof.Gen.Kernel.Launch

@[expose] public section

noncomputable section

namespace Cert.Proof

open Idealize.ShloMosaic Idealize.SL.Sem

/-- The precondition of the ideal program bounds every word of the index argument. -/
theorem range_ideal [Cert.Pre_in_range.Facts] (m : (ℓ : Loc Cert.KernelIdeal.nD Cert.KernelIdeal.τ Cert.KernelIdeal.sig) → Buf (Elt Ideal) ℓ)
    (h : Cert.Pre_KernelIdeal m) (d : Dev Cert.KernelIdeal.nD) (j : Cert.KernelIdeal.S16384x200.Idx) :
    (m (d, (Proc.devRef .tc Cert.KernelIdeal.main_arg0 : DevRef Cert.KernelIdeal.τ Cert.KernelIdeal.sig)) j : BitVec 32).toNat < 200 :=
  Gather.range_of_fn _ _ _ _ _ _ _ _ (h d) j

/-- So does that of the program on binary words. -/
theorem range_bits [Cert.Pre_in_range.Facts] (m : (ℓ : Loc Cert.Kernel.nD Cert.Kernel.τ Cert.Kernel.sig) → Buf (Elt Bits) ℓ)
    (h : Cert.Pre_Kernel m) (d : Dev Cert.KernelIdeal.nD) (j : Cert.KernelIdeal.S16384x200.Idx) :
    ((m : (ℓ : Loc Cert.KernelIdeal.nD Cert.KernelIdeal.τ Cert.KernelIdeal.sig) → Buf (Elt Bits) ℓ) (d, (Proc.devRef .tc Cert.KernelIdeal.main_arg0 : DevRef Cert.KernelIdeal.τ Cert.KernelIdeal.sig)) j : BitVec 32).toNat < 200 :=
  Gather.range_of_fn _ _ _ _ _ _ _ _ (h d) j

/-- The bodies of the two calls are the same text in either program; -/
theorem bodies_eq : Cert.Kernel.defs₀ (F := Bits) = Cert.KernelIdeal.defs₀ (F := Bits) := by
  funext a l x
  cases a <;> (match l with
    | 0 => rfl
    | 1 => rfl)

/-- so are the body tables. -/
theorem defs_eq : Cert.Kernel.defs (F := Bits) = Cert.KernelIdeal.defs (F := Bits) :=
  congrArg (fun D => (Cert.KernelIdeal.sc (F := Bits)).defs (Pipeline.defs (Cert.KernelIdeal.pcfgs (F := Bits)) D)) bodies_eq

/-- The program on binary words runs to the end, its arguments unchanged and its counters back at zero. -/
theorem frame_kernel [Cert.Pre_in_range.Facts] : Cert.quiescent_Kernel (hKernel := Cert.Kernel.Gen.facts) := fun m ρ h => by
  have e : θ_run (Cert.Kernel.defs (F := Bits)) (Cert.Kernel.threads (F := Bits)) ⟨m, fun _ => 0, ρ⟩
      = θ_run (Cert.KernelIdeal.defs (F := Bits)) (Cert.KernelIdeal.threads (F := Bits)) ⟨m, fun _ => 0, ρ⟩ :=
    congrArg (fun D => θ_run D (Cert.KernelIdeal.threads (F := Bits)) ⟨m, fun _ => 0, ρ⟩) defs_eq
  rw [e]
  exact (θ_run Cert.KernelIdeal.defs _ _).mono (fun _ h => ⟨fun c => (h.1 c).2, h.2⟩)
    (Gather.run_values (F := Bits) m ρ (Gather.preOK_of m (range_bits m h)))

/-- So does the ideal program; -/
theorem frame_ideal [Cert.Pre_in_range.Facts] : Cert.quiescent_KernelIdeal (hKernelIdeal := Cert.KernelIdeal.Gen.facts) := fun m ρ h =>
  (θ_run Cert.KernelIdeal.defs _ _).mono (fun _ h => ⟨fun c => (h.1 c).2, h.2⟩)
    (Gather.run_values (F := Ideal) m ρ (Gather.preOK_of m (range_ideal m h)))

/-- so does the reference, which has no counter, -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- the more so on indices in range. -/
theorem frame_reference_pre [Cert.Pre_in_range.Facts] : Cert.quiescent_ReferenceIdeal_pre_in_range (hReferenceIdeal := Cert.ReferenceIdeal.Gen.facts) :=
  fun m ρ _ => frame_reference m ρ trivial

/-- Over the extended reals, from equal arguments the program's result is the reference's. -/
theorem algebraic [Cert.Pre_in_range.Facts] :
    Cert.algebraic_KernelIdeal_ReferenceIdeal (hKernelIdeal := Cert.KernelIdeal.Gen.facts) (hReferenceIdeal := Cert.ReferenceIdeal.Gen.facts) := by
  intro m ρ m' ρ' h hag
  have hr := range_ideal m h
  refine ⟨fun c => Gather.mlpArr (fun c b => Gather.W3 m (Gather.preOK_of m hr) c (Proc.devRef .tc b)) c,
    (θ_run Cert.KernelIdeal.defs _ _).mono (fun _ h => h.1) (Gather.run_values (F := Ideal) m ρ (Gather.preOK_of m hr)), ?_⟩
  have hr' : ∀ (d : Dev Cert.ReferenceIdeal.nD) (j : Cert.ReferenceIdeal.S16384x200.Idx),
      (m' ((d.tc : Thread Cert.ReferenceIdeal.nD Cert.ReferenceIdeal.τ).loc Cert.ReferenceIdeal.main_arg0) j : BitVec 32).toNat < 200 := fun d j => by
    rw [(hag d).1]; exact hr d j
  refine (θ_run Cert.ReferenceIdeal.defs _ _).mono (fun r hrun c => ⟨?_, (hrun c).2⟩) (Reference.run_layers m' ρ' hr')
  funext y
  refine ((hrun c).1 y).trans (Eq.trans ?_ (Gather.result_apply m hr c y).symm)
  obtain ⟨e0, e1, e2, e3, e4, e5, e6, e7⟩ := hag c
  simp only [e0, e1, e2, e3, e4, e5, e6, e7]

/-- Everything the certificate claims. -/
theorem claim : Cert.Claim :=
  ⟨Cert.Kernel.Gen.facts, Cert.KernelIdeal.Gen.facts, Cert.ReferenceIdeal.Gen.facts, Cert.Pre_in_range.Gen.facts,
    frame_kernel, frame_ideal, frame_reference, frame_reference_pre, trivial, algebraic⟩

end Cert.Proof

end
